-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_codebooks [hPre_finite_codebooks : Cert.Pre_finite_codebooks.Facts] (m : (ℓ : Loc Cert.KernelIdeal.nD Cert.KernelIdeal.τ Cert.KernelIdeal.sig) → Buf (Elt Ideal) ℓ) : Prop :=
  ∀ c : Dev Cert.KernelIdeal.nD,
    (Cert.Pre_finite_codebooks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_codebooks [hPre_finite_codebooks : Cert.Pre_finite_codebooks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_codebooks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_codebooks [hKernelIdeal : Cert.KernelIdeal.Facts] [hPre_finite_codebooks : Cert.Pre_finite_codebooks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_codebooks m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_codebooks [hReferenceIdeal : Cert.ReferenceIdeal.Facts] [hPre_finite_codebooks : Cert.Pre_finite_codebooks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_codebooks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_codebooks [hKernelIdeal : Cert.KernelIdeal.Facts] [hReferenceIdeal : Cert.ReferenceIdeal.Facts] [hPre_finite_codebooks : Cert.Pre_finite_codebooks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_codebooks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v72)) (v1 : (c : Dev Cert.KernelIdeal.nD) → Buf (Elt Ideal) ((c.tc : Thread Cert.KernelIdeal.nD Cert.KernelIdeal.τ).loc Cert.KernelIdeal.main_v67)) (v2 : (c : Dev Cert.KernelIdeal.nD) → Buf (Elt Ideal) ((c.tc : Thread Cert.KernelIdeal.nD Cert.KernelIdeal.τ).loc Cert.KernelIdeal.main_v18)) (v3 : (c : Dev Cert.KernelIdeal.nD) → Buf (Elt Ideal) ((c.tc : Thread Cert.KernelIdeal.nD Cert.KernelIdeal.τ).loc Cert.KernelIdeal.main_v34)) (v4 : (c : Dev Cert.KernelIdeal.nD) → Buf (Elt Ideal) ((c.tc : Thread Cert.KernelIdeal.nD Cert.KernelIdeal.τ).loc Cert.KernelIdeal.main_v51)) (v5 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_v67) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_v34) = v3 c
          ∧ r.2.mem ((c.tc : Thread Cert.KernelIdeal.nD Cert.KernelIdeal.τ).loc Cert.KernelIdeal.main_v51) = v4 c
          ∧ r.2.mem ((c.tc : Thread Cert.KernelIdeal.nD Cert.KernelIdeal.τ).loc Cert.KernelIdeal.main_v68) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_v44) = v3 c
          ∧ r.2.mem ((c.tc : Thread Cert.ReferenceIdeal.nD Cert.ReferenceIdeal.τ).loc Cert.ReferenceIdeal.main_v70) = v4 c
          ∧ r.2.mem ((c.tc : Thread Cert.ReferenceIdeal.nD Cert.ReferenceIdeal.τ).loc Cert.ReferenceIdeal.main_v96) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_codebooks : Cert.Pre_finite_codebooks.Facts),
    quiescent_Kernel (hKernel := hKernel)
    ∧ quiescent_KernelIdeal (hKernelIdeal := hKernelIdeal)
    ∧ quiescent_KernelIdeal_pre_finite_codebooks (hKernelIdeal := hKernelIdeal) (hPre_finite_codebooks := hPre_finite_codebooks)
    ∧ quiescent_ReferenceIdeal (hReferenceIdeal := hReferenceIdeal)
    ∧ quiescent_ReferenceIdeal_pre_finite_codebooks (hReferenceIdeal := hReferenceIdeal) (hPre_finite_codebooks := hPre_finite_codebooks)
    ∧ preserves_Kernel_KernelIdeal
    ∧ algebraic_KernelIdeal_ReferenceIdeal_pre_finite_codebooks (hKernelIdeal := hKernelIdeal) (hReferenceIdeal := hReferenceIdeal) (hPre_finite_codebooks := hPre_finite_codebooks)
-- ==== Pre_finite_codebooks.lean ====
abbrev S32x576x64 : Shape := ⟨3, ![32, 576, 64]⟩
abbrev S4x1024x64 : Shape := ⟨3, ![4, 1024, 64]⟩
abbrev S_ : Shape := ⟨0, ![]⟩

class Facts : Prop where
  bcast_S_S4x1024x64 : S_.BroadcastsInDim S4x1024x64 (![] : Fin 0 → Fin S4x1024x64.rank)
  reducesTo_S4x1024x64_S_d0_1_2 : S4x1024x64.ReducesTo [0, 1, 2] S_
  h_S_ : 0 < S_.numel

variable [Facts]

def fn {F : FTy → Type} [FloatOps F] (main_arg0 : FVec F S32x576x64 .f32) (main_arg1 : FVec F S4x1024x64 .f32) : IVec S_ 1 :=
  let main_v0 : FVec F S4x1024x64 .f32 := Host.absf main_arg1
  let main_cst : FVec F S_ .f32 := constant S_ .f32 0x7F800000#32
  let main_v1 : FVec F S4x1024x64 .f32 := broadcastInDim S4x1024x64 ![] bcast_S_S4x1024x64 main_cst
  let main_v2 : IVec S4x1024x64 1 := cmpf .olt main_v0 main_v1
  let main_c : IVec S_ 1 := constantI S_ 1 1#1
  let main_v3 : IVec S_ 1 := (fun x v => Host.reduce IntOp.andi x v reducesTo_S4x1024x64_S_d0_1_2 h_S_) main_v2 main_c
  main_v3
-- ==== Kernel.lean ====
abbrev S32x576x64 : Shape := ⟨3, ![32, 576, 64]⟩
abbrev S4x1024x64 : Shape := ⟨3, ![4, 1024, 64]⟩
abbrev S18432x64 : Shape := ⟨2, ![18432, 64]⟩
abbrev S4x256x256 : Shape := ⟨3, ![4, 256, 256]⟩
abbrev S4x768x256 : Shape := ⟨3, ![4, 768, 256]⟩
abbrev S1x256x256 : Shape := ⟨3, ![1, 256, 256]⟩
abbrev S1x768x256 : Shape := ⟨3, ![1, 768, 256]⟩
abbrev S256x256 : Shape := ⟨2, ![256, 256]⟩
abbrev S1x1024x64 : Shape := ⟨3, ![1, 1024, 64]⟩
abbrev S1024x64 : Shape := ⟨2, ![1024, 64]⟩
abbrev S_ : Shape := ⟨0, ![]⟩
abbrev S18432 : Shape := ⟨1, ![18432]⟩
abbrev S18432x1 : Shape := ⟨2, ![18432, 1]⟩
abbrev S1024 : Shape := ⟨1, ![1024]⟩
abbrev S1x1x1024 : Shape := ⟨3, ![1, 1, 1024]⟩
abbrev S768x256 : Shape := ⟨2, ![768, 256]⟩
abbrev S18x1x1024 : Shape := ⟨3, ![18, 1, 1024]⟩
abbrev S1x1 : Shape := ⟨2, ![1, 1]⟩
abbrev S1024x1 : Shape := ⟨2, ![1024, 1]⟩
abbrev S1x1024 : Shape := ⟨2, ![1, 1024]⟩
abbrev S1024x1024 : Shape := ⟨2, ![1024, 1024]⟩
abbrev S1024x768 : Shape := ⟨2, ![1024, 768]⟩
abbrev S1024x256 : Shape := ⟨2, ![1024, 256]⟩
abbrev S1 : Shape := ⟨1, ![1]⟩
abbrev S1x1x1 : Shape := ⟨3, ![1, 1, 1]⟩

abbrev nBuf : Space → Nat
  | .hbm => 104
  | .vmem => 56
  | .smem => 4
  | _ => 0

abbrev bufTy : (tb : Table) → Fin (tcTables nBuf tb) → BufTy
  | .hbm, ⟨0, _⟩ => ⟨S32x576x64, .f32⟩
  | .hbm, ⟨1, _⟩ => ⟨S4x1024x64, .f32⟩
  | .hbm, ⟨2, _⟩ => ⟨S18432x64, .f32⟩
  | .hbm, ⟨3, _⟩ => ⟨S4x256x256, .f32⟩
  | .hbm, ⟨4, _⟩ => ⟨S4x768x256, .f32⟩
  | .hbm, ⟨5, _⟩ => ⟨S1x1024x64, .f32⟩
  | .hbm, ⟨6, _⟩ => ⟨S1024x64, .f32⟩
  | .hbm, ⟨7, _⟩ => ⟨S18432x64, .f32⟩
  | .hbm, ⟨8, _⟩ => ⟨S_, .f32⟩
  | .hbm, ⟨9, _⟩ => ⟨S18432, .f32⟩
  | .hbm, ⟨10, _⟩ => ⟨S18432x1, .f32⟩
  | .hbm, ⟨11, _⟩ => ⟨S1024x64, .f32⟩
  | .hbm, ⟨12, _⟩ => ⟨S_, .f32⟩
  | .hbm, ⟨13, _⟩ => ⟨S1024, .f32⟩
  | .hbm, ⟨14, _⟩ => ⟨S1x1x1024, .f32⟩
  | .hbm, ⟨15, _⟩ => ⟨S1x768x256, .f32⟩
  | .hbm, ⟨16, _⟩ => ⟨S768x256, .f32⟩
  | .hbm, ⟨17, _⟩ => ⟨S18432x64, .f32⟩
  | .hbm, ⟨18, _⟩ => ⟨S18432x64, .f32⟩
  | .hbm, ⟨19, _⟩ => ⟨S18x1x1024, .i32⟩
  | .hbm, ⟨20, _⟩ => ⟨S1x1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S18432, .i32⟩
  | .hbm, ⟨29, _⟩ => ⟨S1x1024x64, .f32⟩
  | .hbm, ⟨30, _⟩ => ⟨S1024x64, .f32⟩
  | .hbm, ⟨31, _⟩ => ⟨S18432x64, .f32⟩
  | .hbm, ⟨32, _⟩ => ⟨S_, .f32⟩
  | .hbm, ⟨33, _⟩ => ⟨S18432, .f32⟩
  | .hbm, ⟨34, _⟩ => ⟨S18432x1, .f32⟩
  | .hbm, ⟨35, _⟩ => ⟨S1024x64, .f32⟩
  | .hbm, ⟨36, _⟩ => ⟨S_, .f32⟩
  | .hbm, ⟨37, _⟩ => ⟨S1024, .f32⟩
  | .hbm, ⟨38, _⟩ => ⟨S1x1x1024, .f32⟩
  | .hbm, ⟨39, _⟩ => ⟨S1x768x256, .f32⟩
  | .hbm, ⟨40, _⟩ => ⟨S768x256, .f32⟩
  | .hbm, ⟨41, _⟩ => ⟨S18432x64, .f32⟩
  | .hbm, ⟨42, _⟩ => ⟨S18432x64, .f32⟩
  | .hbm, ⟨43, _⟩ => ⟨S18x1x1024, .i32⟩
  | .hbm, ⟨44, _⟩ => ⟨S1x1, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S18432, .i32⟩
  | .hbm, ⟨52, _⟩ => ⟨S18432x64, .f32⟩
  | .hbm, ⟨53, _⟩ => ⟨S1x1024x64, .f32⟩
  | .hbm, ⟨54, _⟩ => ⟨S1024x64, .f32⟩
  | .hbm, ⟨55, _⟩ => ⟨S18432x64, .f32⟩
  | .hbm, ⟨56, _⟩ => ⟨S_, .f32⟩
  | .hbm, ⟨57, _⟩ => ⟨S18432, .f32⟩
  | .hbm, ⟨58, _⟩ => ⟨S18432x1, .f32⟩
  | .hbm, ⟨59, _⟩ => ⟨S1024x64, .f32⟩
  | .hbm, ⟨60, _⟩ => ⟨S_, .f32⟩
  | .hbm, ⟨61, _⟩ => ⟨S1024, .f32⟩
  | .hbm, ⟨62, _⟩ => ⟨S1x1x1024, .f32⟩
  | .hbm, ⟨63, _⟩ => ⟨S1x768x256, .f32⟩
  | .hbm, ⟨64, _⟩ => ⟨S768x256, .f32⟩
  | .hbm, ⟨65, _⟩ => ⟨S18432x64, .f32⟩
  | .hbm, ⟨66, _⟩ => ⟨S18432x64, .f32⟩
  | .hbm, ⟨67, _⟩ => ⟨S18x1x1024, .i32⟩
  | .hbm, ⟨68, _⟩ => ⟨S1x1, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S18432, .i32⟩
  | .hbm, ⟨76, _⟩ => ⟨S18432x64, .f32⟩
  | .hbm, ⟨77, _⟩ => ⟨S1x1024x64, .f32⟩
  | .hbm, ⟨78, _⟩ => ⟨S1024x64, .f32⟩
  | .hbm, ⟨79, _⟩ => ⟨S18432x64, .f32⟩
  | .hbm, ⟨80, _⟩ => ⟨S_, .f32⟩
  | .hbm, ⟨81, _⟩ => ⟨S18432, .f32⟩
  | .hbm, ⟨82, _⟩ => ⟨S18432x1, .f32⟩
  | .hbm, ⟨83, _⟩ => ⟨S1024x64, .f32⟩
  | .hbm, ⟨84, _⟩ => ⟨S_, .f32⟩
  | .hbm, ⟨85, _⟩ => ⟨S1024, .f32⟩
  | .hbm, ⟨86, _⟩ => ⟨S1x1x1024, .f32⟩
  | .hbm, ⟨87, _⟩ => ⟨S1x768x256, .f32⟩
  | .hbm, ⟨88, _⟩ => ⟨S768x256, .f32⟩
  | .hbm, ⟨89, _⟩ => ⟨S18432x64, .f32⟩
  | .hbm, ⟨90, _⟩ => ⟨S18432x64, .f32⟩
  | .hbm, ⟨91, _⟩ => ⟨S18x1x1024, .i32⟩
  | .hbm, ⟨92, _⟩ => ⟨S1x1, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S18432, .i32⟩
  | .hbm, ⟨100, _⟩ => ⟨S18432x64, .f32⟩
  | .hbm, ⟨101, _⟩ => ⟨S18432x64, .f32⟩
  | .hbm, ⟨102, _⟩ => ⟨S18432x64, .f32⟩
  | .hbm, ⟨103, _⟩ => ⟨S32x576x64, .f32⟩
  | .local _ .vmem, ⟨0, _⟩ => ⟨S1x256x256, .f32⟩
  | .local _ .vmem, ⟨1, _⟩ => ⟨S1x256x256, .f32⟩
  | .local _ .vmem, ⟨2, _⟩ => ⟨S1x768x256, .f32⟩
  | .local _ .vmem, ⟨3, _⟩ => ⟨S1x768x256, .f32⟩
  | .local _ .vmem, ⟨4, _⟩ => ⟨S1024x64, .f32⟩
  | .local _ .vmem, ⟨5, _⟩ => ⟨S1024x64, .f32⟩
  | .local _ .vmem, ⟨6, _⟩ => ⟨S1024x1, .f32⟩
  | .local _ .vmem, ⟨7, _⟩ => ⟨S1024x1, .f32⟩
  | .local _ .vmem, ⟨8, _⟩ => ⟨S1x1x1024, .f32⟩
  | .local _ .vmem, ⟨9, _⟩ => ⟨S1024x64, .f32⟩
  | .local _ .vmem, ⟨10, _⟩ => ⟨S768x256, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | .local _ .vmem, ⟨14, _⟩ => ⟨S1024x64, .f32⟩
  | .local _ .vmem, ⟨15, _⟩ => ⟨S1x1x1024, .i32⟩
  | .local _ .vmem, ⟨16, _⟩ => ⟨S1x1x1024, .i32⟩
  | .local _ .vmem, ⟨17, _⟩ => ⟨S1024x64, .f32⟩
  | .local _ .vmem, ⟨18, _⟩ => ⟨S1024x64, .f32⟩
  | .local _ .vmem, ⟨19, _⟩ => ⟨S1024x1, .f32⟩
  | .local _ .vmem, ⟨20, _⟩ => ⟨S1024x1, .f32⟩
  | .local _ .vmem, ⟨21, _⟩ => ⟨S1x1x1024, .f32⟩
  | .local _ .vmem, ⟨22, _⟩ => ⟨S1024x64, .f32⟩
  | .local _ .vmem, ⟨23, _⟩ => ⟨S768x256, .f32⟩
  | .local _ .vmem, ⟨24, _⟩ => ⟨S1024x64, .f32⟩
  | .local _ .vmem, ⟨25, _⟩ => ⟨S1024x64, .f32⟩
  | .local _ .vmem, ⟨26, _⟩ => ⟨S1024x64, .f32⟩
  | .local _ .vmem, ⟨27, _⟩ => ⟨S1024x64, .f32⟩
  | .local _ .vmem, ⟨28, _⟩ => ⟨S1x1x1024, .i32⟩
  | .local _ .vmem, ⟨29, _⟩ => ⟨S1x1x1024, .i32⟩
  | .local _ .vmem, ⟨30, _⟩ => ⟨S1024x64, .f32⟩
  | .local _ .vmem, ⟨31, _⟩ => ⟨S1024x64, .f32⟩
  | .local _ .vmem, ⟨32, _⟩ => ⟨S1024x1, .f32⟩
  | .local _ .vmem, ⟨33, _⟩ => ⟨S1024x1, .f32⟩
  | .local _ .vmem, ⟨34, _⟩ => ⟨S1x1x1024, .f32⟩
  | .local _ .vmem, ⟨35, _⟩ => ⟨S1024x64, .f32⟩
  | .local _ .vmem, ⟨36, _⟩ => ⟨S768x256, .f32⟩
  | .local _ .vmem, ⟨37, _⟩ => ⟨S1024x64, .f32⟩
  | .local _ .vmem, ⟨38, _⟩ => ⟨S1024x64, .f32⟩
  | .local _ .vmem, ⟨39, _⟩ => ⟨S1024x64, .f32⟩
  | .local _ .vmem, ⟨40, _⟩ => ⟨S1024x64, .f32⟩
  | .local _ .vmem, ⟨41, _⟩ => ⟨S1x1x1024, .i32⟩
  | .local _ .vmem, ⟨42, _⟩ => ⟨S1x1x1024, .i32⟩
  | .local _ .vmem, ⟨43, _⟩ => ⟨S1024x64, .f32⟩
  | .local _ .vmem, ⟨44, _⟩ => ⟨S1024x64, .f32⟩
  | .local _ .vmem, ⟨45, _⟩ => ⟨S1024x1, .f32⟩
  | .local _ .vmem, ⟨46, _⟩ => ⟨S1024x1, .f32⟩
  | .local _ .vmem, ⟨47, _⟩ => ⟨S1x1x1024, .f32⟩
  | .local _ .vmem, ⟨48, _⟩ => ⟨S1024x64, .f32⟩
  | .local _ .vmem, ⟨49, _⟩ => ⟨S768x256, .f32⟩
  | .local _ .vmem, ⟨50, _⟩ => ⟨S1024x64, .f32⟩
  | .local _ .vmem, ⟨51, _⟩ => ⟨S1024x64, .f32⟩
  | .local _ .vmem, ⟨52, _⟩ => ⟨S1024x64, .f32⟩
  | .local _ .vmem, ⟨53, _⟩ => ⟨S1024x64, .f32⟩
  | .local _ .vmem, ⟨54, _⟩ => ⟨S1x1x1024, .i32⟩
  | .local _ .vmem, ⟨55, _⟩ => ⟨S1x1x1024, .i32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | _, _ => ⟨S32x576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13_0 : Ref sig .tc := ⟨.hbm, 17, rfl⟩
abbrev main_v13_1 : Ref sig .tc := ⟨.hbm, 18, rfl⟩
abbrev main_v13_2 : Ref sig .tc := ⟨.hbm, 19, rfl⟩
abbrev main_v13_3 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29_0 : Ref sig .tc := ⟨.hbm, 41, rfl⟩
abbrev main_v29_1 : Ref sig .tc := ⟨.hbm, 42, rfl⟩
abbrev main_v29_2 : Ref sig .tc := ⟨.hbm, 43, rfl⟩
abbrev main_v29_3 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46_0 : Ref sig .tc := ⟨.hbm, 65, rfl⟩
abbrev main_v46_1 : Ref sig .tc := ⟨.hbm, 66, rfl⟩
abbrev main_v46_2 : Ref sig .tc := ⟨.hbm, 67, rfl⟩
abbrev main_v46_3 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_cst_11 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63_0 : Ref sig .tc := ⟨.hbm, 89, rfl⟩
abbrev main_v63_1 : Ref sig .tc := ⟨.hbm, 90, rfl⟩
abbrev main_v63_2 : Ref sig .tc := ⟨.hbm, 91, rfl⟩
abbrev main_v63_3 : Ref sig .tc := ⟨.hbm, 92, rfl⟩
abbrev main_v64 : Ref sig .tc := ⟨.hbm, 93, rfl⟩
abbrev main_cst_14 : Ref sig .tc := ⟨.hbm, 94, rfl⟩
abbrev main_v65 : Ref sig .tc := ⟨.hbm, 95, rfl⟩
abbrev main_cst_15 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg5_1 : Ref sig .tc := ⟨.vmem, 38, rfl⟩
abbrev cc3_stg6_0 : Ref sig .tc := ⟨.vmem, 39, rfl⟩
abbrev cc3_stg6_1 : Ref sig .tc := ⟨.vmem, 40, rfl⟩
abbrev cc3_stg7_0 : Ref sig .tc := ⟨.vmem, 41, rfl⟩
abbrev cc3_stg7_1 : Ref sig .tc := ⟨.vmem, 42, rfl⟩
abbrev cc4_stg0_0 : Ref sig .tc := ⟨.vmem, 43, rfl⟩
abbrev cc4_stg0_1 : Ref sig .tc := ⟨.vmem, 44, rfl⟩
abbrev cc4_stg1_0 : Ref sig .tc := ⟨.vmem, 45, rfl⟩
abbrev cc4_stg1_1 : Ref sig .tc := ⟨.vmem, 46, rfl⟩
abbrev cc4_stg2_0 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg5_1 : Ref sig .tc := ⟨.vmem, 51, rfl⟩
abbrev cc4_stg6_0 : Ref sig .tc := ⟨.vmem, 52, rfl⟩
abbrev cc4_stg6_1 : Ref sig .tc := ⟨.vmem, 53, rfl⟩
abbrev cc4_stg7_0 : Ref sig .tc := ⟨.vmem, 54, rfl⟩
abbrev cc4_stg7_1 : Ref sig .tc := ⟨.vmem, 55, rfl⟩
abbrev cc1_stg8_0 : Ref sig .tc := ⟨.smem, 0, rfl⟩
abbrev cc2_stg8_0 : Ref sig .tc := ⟨.smem, 1, rfl⟩
abbrev cc3_stg8_0 : Ref sig .tc := ⟨.smem, 2, rfl⟩
abbrev cc4_stg8_0 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc1_sem6_0 : DmaSem sig := 13
abbrev cc1_sem6_1 : DmaSem sig := 14
abbrev cc1_sem7_0 : DmaSem sig := 15
abbrev cc1_sem7_1 : DmaSem sig := 16
abbrev cc1_sem8_0 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc2_sem6_0 : DmaSem sig := 27
abbrev cc2_sem6_1 : DmaSem sig := 28
abbrev cc2_sem7_0 : DmaSem sig := 29
abbrev cc2_sem7_1 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem5_1 : DmaSem sig := 40
abbrev cc3_sem6_0 : DmaSem sig := 41
abbrev cc3_sem6_1 : DmaSem sig := 42
abbrev cc3_sem7_0 : DmaSem sig := 43
abbrev cc3_sem7_1 : DmaSem sig := 44
abbrev cc3_sem8_0 : DmaSem sig := 45
abbrev cc4_sem0_0 : DmaSem sig := 46
abbrev cc4_sem0_1 : DmaSem sig := 47
abbrev cc4_sem1_0 : DmaSem sig := 48
abbrev cc4_sem1_1 : DmaSem sig := 49
abbrev cc4_sem2_0 : DmaSem sig := 50
abbrev cc4_sem3_0 : DmaSem sig := 51
abbrev cc4_sem4_0 : DmaSem sig := 52
abbrev cc4_sem5_0 : DmaSem sig := 53
abbrev cc4_sem5_1 : DmaSem sig := 54
abbrev cc4_sem6_0 : DmaSem sig := 55
abbrev cc4_sem6_1 : DmaSem sig := 56
abbrev cc4_sem7_0 : DmaSem sig := 57
abbrev cc4_sem7_1 : DmaSem sig := 58
abbrev cc4_sem8_0 : DmaSem sig := 59

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x768x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![18], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S768x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1024x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1x1024 .i32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .smem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![18], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S768x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1024x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x1x1024 .i32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .smem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![18], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1024x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1024x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S768x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1024x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1024x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x1x1024 .i32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .smem S1x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev grid4 : Pipeline.Grid := ⟨1, ![18], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1024x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1024x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1024x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S768x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1024x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1024x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S1x1x1024 .i32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 1 → Memref sig .tc .smem S1x1 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]
-- ==== ReferenceIdeal.lean ====
abbrev S32x576x64 : Shape := ⟨3, ![32, 576, 64]⟩
abbrev S4x1024x64 : Shape := ⟨3, ![4, 1024, 64]⟩
abbrev S18432x64 : Shape := ⟨2, ![18432, 64]⟩
abbrev S_ : Shape := ⟨0, ![]⟩
abbrev S1x1024x64 : Shape := ⟨3, ![1, 1024, 64]⟩
abbrev S1024x64 : Shape := ⟨2, ![1024, 64]⟩
abbrev S18432 : Shape := ⟨1, ![18432]⟩
abbrev S18432x1 : Shape := ⟨2, ![18432, 1]⟩
abbrev S64x1024 : Shape := ⟨2, ![64, 1024]⟩
abbrev S18432x1024 : Shape := ⟨2, ![18432, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩

abbrev nBuf : Space → Nat
  | .hbm => 241
  | .vmem => 0
  | .smem => 0
  | _ => 0

abbrev hbmTy0_0 (i : Nat) : BufTy := match i % 128 with
  | 0 => ⟨S32x576x64, .f32⟩
  | 1 => ⟨S4x1024x64, .f32⟩
  | 2 => ⟨S18432x64, .f32⟩
  | 3 => ⟨S_, .f32⟩
  | 4 => ⟨S18432x64, .f32⟩
  | 5 => ⟨S1x1024x64, .f32⟩
  | 6 => ⟨S1024x64, .f32⟩
  | 7 => ⟨S18432x64, .f32⟩
  | 8 => ⟨S_, .f32⟩
  | 9 => ⟨S18432, .f32⟩
  | 10 => ⟨S18432x1, .f32⟩
  | 11 => ⟨S64x1024, .f32⟩
  | 12 => ⟨S18432x1024, .f32⟩
  | 13 => ⟨S_, .f32⟩
  | 14 => ⟨S18432x1024, .f32⟩
  | 15 => ⟨S18432x1024, .f32⟩
  | 16 => ⟨S18432x1024, .f32⟩
  | 17 => ⟨S18432x1024, .f32⟩
  | 18 => ⟨S1024x64, .f32⟩
  | 19 => ⟨S_, .f32⟩
  | 20 => ⟨S1024, .f32⟩
  | 21 => ⟨S1x1024, .f32⟩
  | 22 => ⟨S18432x1024, .f32⟩
  | 23 => ⟨S18432x1024, .f32⟩
  | 24 => ⟨S18432x1024, .i32⟩
  | 25 => ⟨S_, .f32⟩
  | 26 => ⟨S_, .i32⟩
  | 27 => ⟨S18432, .f32⟩
  | 28 => ⟨S18432, .i32⟩
  | 29 => ⟨S_, .i32⟩
  | 30 => ⟨S18432, .i32⟩
  | 31 => ⟨S18432, .i1⟩
  | 32 => ⟨S_, .i32⟩
  | 33 => ⟨S18432, .i32⟩
  | 34 => ⟨S18432, .i32⟩
  | 35 => ⟨S18432, .i32⟩
  | 36 => ⟨S18432x1, .i32⟩
  | 37 => ⟨S1, .i32⟩
  | 38 => ⟨S_, .i32⟩
  | 39 => ⟨S18432x1, .i32⟩
  | 40 => ⟨S18432x1, .i1⟩
  | 41 => ⟨S1x1, .i32⟩
  | 42 => ⟨S18432x1, .i32⟩
  | 43 => ⟨S18432x1, .i1⟩
  | 44 => ⟨S18432x1, .i1⟩
  | 45 => ⟨S_, .i1⟩
  | 46 => ⟨S18432, .i1⟩
  | 47 => ⟨S18432x64, .f32⟩
  | 48 => ⟨S18432x64, .i1⟩
  | 49 => ⟨S_, .f32⟩
  | 50 => ⟨S18432x64, .f32⟩
  | 51 => ⟨S18432x64, .f32⟩
  | 52 => ⟨S18432x64, .f32⟩
  | 53 => ⟨S18432x64, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S18432x64, .f32⟩
  | 63 => ⟨S18432x64, .f32⟩
  | 64 => ⟨S1x1024x64, .f32⟩
  | 65 => ⟨S1024x64, .f32⟩
  | 66 => ⟨S18432x64, .f32⟩
  | 67 => ⟨S_, .f32⟩
  | 68 => ⟨S18432, .f32⟩
  | 69 => ⟨S18432x1, .f32⟩
  | 70 => ⟨S64x1024, .f32⟩
  | 71 => ⟨S18432x1024, .f32⟩
  | 72 => ⟨S_, .f32⟩
  | 73 => ⟨S18432x1024, .f32⟩
  | 74 => ⟨S18432x1024, .f32⟩
  | 75 => ⟨S18432x1024, .f32⟩
  | 76 => ⟨S18432x1024, .f32⟩
  | 77 => ⟨S1024x64, .f32⟩
  | 78 => ⟨S_, .f32⟩
  | 79 => ⟨S1024, .f32⟩
  | 80 => ⟨S1x1024, .f32⟩
  | 81 => ⟨S18432x1024, .f32⟩
  | 82 => ⟨S18432x1024, .f32⟩
  | 83 => ⟨S18432x1024, .i32⟩
  | 84 => ⟨S_, .f32⟩
  | 85 => ⟨S_, .i32⟩
  | 86 => ⟨S18432, .f32⟩
  | 87 => ⟨S18432, .i32⟩
  | 88 => ⟨S_, .i32⟩
  | 89 => ⟨S18432, .i32⟩
  | 90 => ⟨S18432, .i1⟩
  | 91 => ⟨S_, .i32⟩
  | 92 => ⟨S18432, .i32⟩
  | 93 => ⟨S18432, .i32⟩
  | 94 => ⟨S18432, .i32⟩
  | 95 => ⟨S18432x1, .i32⟩
  | 96 => ⟨S1, .i32⟩
  | 97 => ⟨S_, .i32⟩
  | 98 => ⟨S18432x1, .i32⟩
  | 99 => ⟨S18432x1, .i1⟩
  | 100 => ⟨S1x1, .i32⟩
  | 101 => ⟨S18432x1, .i32⟩
  | 102 => ⟨S18432x1, .i1⟩
  | 103 => ⟨S18432x1, .i1⟩
  | 104 => ⟨S_, .i1⟩
  | 105 => ⟨S18432, .i1⟩
  | 106 => ⟨S18432x64, .f32⟩
  | 107 => ⟨S18432x64, .i1⟩
  | 108 => ⟨S_, .f32⟩
  | 109 => ⟨S18432x64, .f32⟩
  | 110 => ⟨S18432x64, .f32⟩
  | 111 => ⟨S18432x64, .f32⟩
  | 112 => ⟨S18432x64, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S18432x64, .f32⟩
  | 121 => ⟨S18432x64, .f32⟩
  | 122 => ⟨S1x1024x64, .f32⟩
  | 123 => ⟨S1024x64, .f32⟩
  | 124 => ⟨S18432x64, .f32⟩
  | 125 => ⟨S_, .f32⟩
  | 126 => ⟨S18432, .f32⟩
  | 127 => ⟨S18432x1, .f32⟩
  | _ => ⟨S32x576x64, .f32⟩

abbrev hbmTy0_1 (i : Nat) : BufTy := match i % 128 with
  | 0 => ⟨S64x1024, .f32⟩
  | 1 => ⟨S18432x1024, .f32⟩
  | 2 => ⟨S_, .f32⟩
  | 3 => ⟨S18432x1024, .f32⟩
  | 4 => ⟨S18432x1024, .f32⟩
  | 5 => ⟨S18432x1024, .f32⟩
  | 6 => ⟨S18432x1024, .f32⟩
  | 7 => ⟨S1024x64, .f32⟩
  | 8 => ⟨S_, .f32⟩
  | 9 => ⟨S1024, .f32⟩
  | 10 => ⟨S1x1024, .f32⟩
  | 11 => ⟨S18432x1024, .f32⟩
  | 12 => ⟨S18432x1024, .f32⟩
  | 13 => ⟨S18432x1024, .i32⟩
  | 14 => ⟨S_, .f32⟩
  | 15 => ⟨S_, .i32⟩
  | 16 => ⟨S18432, .f32⟩
  | 17 => ⟨S18432, .i32⟩
  | 18 => ⟨S_, .i32⟩
  | 19 => ⟨S18432, .i32⟩
  | 20 => ⟨S18432, .i1⟩
  | 21 => ⟨S_, .i32⟩
  | 22 => ⟨S18432, .i32⟩
  | 23 => ⟨S18432, .i32⟩
  | 24 => ⟨S18432, .i32⟩
  | 25 => ⟨S18432x1, .i32⟩
  | 26 => ⟨S1, .i32⟩
  | 27 => ⟨S_, .i32⟩
  | 28 => ⟨S18432x1, .i32⟩
  | 29 => ⟨S18432x1, .i1⟩
  | 30 => ⟨S1x1, .i32⟩
  | 31 => ⟨S18432x1, .i32⟩
  | 32 => ⟨S18432x1, .i1⟩
  | 33 => ⟨S18432x1, .i1⟩
  | 34 => ⟨S_, .i1⟩
  | 35 => ⟨S18432, .i1⟩
  | 36 => ⟨S18432x64, .f32⟩
  | 37 => ⟨S18432x64, .i1⟩
  | 38 => ⟨S_, .f32⟩
  | 39 => ⟨S18432x64, .f32⟩
  | 40 => ⟨S18432x64, .f32⟩
  | 41 => ⟨S18432x64, .f32⟩
  | 42 => ⟨S18432x64, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S18432x64, .f32⟩
  | 51 => ⟨S18432x64, .f32⟩
  | 52 => ⟨S1x1024x64, .f32⟩
  | 53 => ⟨S1024x64, .f32⟩
  | 54 => ⟨S18432x64, .f32⟩
  | 55 => ⟨S_, .f32⟩
  | 56 => ⟨S18432, .f32⟩
  | 57 => ⟨S18432x1, .f32⟩
  | 58 => ⟨S64x1024, .f32⟩
  | 59 => ⟨S18432x1024, .f32⟩
  | 60 => ⟨S_, .f32⟩
  | 61 => ⟨S18432x1024, .f32⟩
  | 62 => ⟨S18432x1024, .f32⟩
  | 63 => ⟨S18432x1024, .f32⟩
  | 64 => ⟨S18432x1024, .f32⟩
  | 65 => ⟨S1024x64, .f32⟩
  | 66 => ⟨S_, .f32⟩
  | 67 => ⟨S1024, .f32⟩
  | 68 => ⟨S1x1024, .f32⟩
  | 69 => ⟨S18432x1024, .f32⟩
  | 70 => ⟨S18432x1024, .f32⟩
  | 71 => ⟨S18432x1024, .i32⟩
  | 72 => ⟨S_, .f32⟩
  | 73 => ⟨S_, .i32⟩
  | 74 => ⟨S18432, .f32⟩
  | 75 => ⟨S18432, .i32⟩
  | 76 => ⟨S_, .i32⟩
  | 77 => ⟨S18432, .i32⟩
  | 78 => ⟨S18432, .i1⟩
  | 79 => ⟨S_, .i32⟩
  | 80 => ⟨S18432, .i32⟩
  | 81 => ⟨S18432, .i32⟩
  | 82 => ⟨S18432, .i32⟩
  | 83 => ⟨S18432x1, .i32⟩
  | 84 => ⟨S1, .i32⟩
  | 85 => ⟨S_, .i32⟩
  | 86 => ⟨S18432x1, .i32⟩
  | 87 => ⟨S18432x1, .i1⟩
  | 88 => ⟨S1x1, .i32⟩
  | 89 => ⟨S18432x1, .i32⟩
  | 90 => ⟨S18432x1, .i1⟩
  | 91 => ⟨S18432x1, .i1⟩
  | 92 => ⟨S_, .i1⟩
  | 93 => ⟨S18432, .i1⟩
  | 94 => ⟨S18432x64, .f32⟩
  | 95 => ⟨S18432x64, .i1⟩
  | 96 => ⟨S_, .f32⟩
  | 97 => ⟨S18432x64, .f32⟩
  | 98 => ⟨S18432x64, .f32⟩
  | 99 => ⟨S18432x64, .f32⟩
  | 100 => ⟨S18432x64, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S18432x64, .f32⟩
  | 109 => ⟨S18432x64, .f32⟩
  | 110 => ⟨S18432x64, .f32⟩
  | 111 => ⟨S18432x64, .f32⟩
  | 112 => ⟨S32x576x64, .f32⟩
  | _ => ⟨S32x576x64, .f32⟩

abbrev hbmTy (i : Nat) : BufTy := match i / 128 with
  | 0 => hbmTy0_0 i
  | 1 => hbmTy0_1 i
  | _ => ⟨S32x576x64, .f32⟩

abbrev bufTy : (tb : Table) → Fin (tcTables nBuf tb) → BufTy
  | .hbm, ⟨i, _⟩ => hbmTy i
  | _, _ => ⟨S32x576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_cst : Ref sig .tc := ⟨.hbm, 25, rfl⟩
abbrev main_call0_c : Ref sig .tc := ⟨.hbm, 26, rfl⟩
abbrev main_call0_v1_0 : Ref sig .tc := ⟨.hbm, 27, rfl⟩
abbrev main_v18 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_cst_5 : Ref sig .tc := ⟨.hbm, 58, rfl⟩
abbrev main_v24 : Ref sig .tc := ⟨.hbm, 59, rfl⟩
abbrev main_cst_6 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_cst_7 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_8 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_9 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_call2_v0 : Ref sig .tc := ⟨.hbm, 83, rfl⟩
abbrev main_call2_cst : Ref sig .tc := ⟨.hbm, 84, rfl⟩
abbrev main_call2_c : Ref sig .tc := ⟨.hbm, 85, rfl⟩
abbrev main_call2_v1_0 : Ref sig .tc := ⟨.hbm, 86, rfl⟩
abbrev main_v44 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_call3_cst : Ref sig .tc := ⟨.hbm, 108, rfl⟩
abbrev main_call3_v15 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_cst_10 : Ref sig .tc := ⟨.hbm, 113, rfl⟩
abbrev main_v48 : Ref sig .tc := ⟨.hbm, 114, rfl⟩
abbrev main_cst_11 : Ref sig .tc := ⟨.hbm, 115, rfl⟩
abbrev main_v49 : Ref sig .tc := ⟨.hbm, 116, rfl⟩
abbrev main_cst_12 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_cst_13 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_cst_14 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_cst_15 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_call4_v0 : Ref sig .tc := ⟨.hbm, 141, rfl⟩
abbrev main_call4_cst : Ref sig .tc := ⟨.hbm, 142, rfl⟩
abbrev main_call4_c : Ref sig .tc := ⟨.hbm, 143, rfl⟩
abbrev main_call4_v1_0 : Ref sig .tc := ⟨.hbm, 144, rfl⟩
abbrev main_v70 : Ref sig .tc := ⟨.hbm, 145, rfl⟩
abbrev main_call5_c : Ref sig .tc := ⟨.hbm, 146, rfl⟩
abbrev main_call5_v0 : Ref sig .tc := ⟨.hbm, 147, rfl⟩
abbrev main_call5_v1 : Ref sig .tc := ⟨.hbm, 148, rfl⟩
abbrev main_call5_c_0 : Ref sig .tc := ⟨.hbm, 149, rfl⟩
abbrev main_call5_v2 : Ref sig .tc := ⟨.hbm, 150, rfl⟩
abbrev main_call5_v3 : Ref sig .tc := ⟨.hbm, 151, rfl⟩
abbrev main_call5_v4 : Ref sig .tc := ⟨.hbm, 152, rfl⟩
abbrev main_call5_v5 : Ref sig .tc := ⟨.hbm, 153, rfl⟩
abbrev main_call5_c_1 : Ref sig .tc := ⟨.hbm, 154, rfl⟩
abbrev main_call5_c_2 : Ref sig .tc := ⟨.hbm, 155, rfl⟩
abbrev main_call5_v6 : Ref sig .tc := ⟨.hbm, 156, rfl⟩
abbrev main_call5_v7 : Ref sig .tc := ⟨.hbm, 157, rfl⟩
abbrev main_call5_v8 : Ref sig .tc := ⟨.hbm, 158, rfl⟩
abbrev main_call5_v9 : Ref sig .tc := ⟨.hbm, 159, rfl⟩
abbrev main_call5_v10 : Ref sig .tc := ⟨.hbm, 160, rfl⟩
abbrev main_call5_v11 : Ref sig .tc := ⟨.hbm, 161, rfl⟩
abbrev main_call5_c_3 : Ref sig .tc := ⟨.hbm, 162, rfl⟩
abbrev main_call5_v12 : Ref sig .tc := ⟨.hbm, 163, rfl⟩
abbrev main_call5_v13 : Ref sig .tc := ⟨.hbm, 164, rfl⟩
abbrev main_call5_v14 : Ref sig .tc := ⟨.hbm, 165, rfl⟩
abbrev main_call5_cst : Ref sig .tc := ⟨.hbm, 166, rfl⟩
abbrev main_call5_v15 : Ref sig .tc := ⟨.hbm, 167, rfl⟩
abbrev main_v71 : Ref sig .tc := ⟨.hbm, 168, rfl⟩
abbrev main_v72 : Ref sig .tc := ⟨.hbm, 169, rfl⟩
abbrev main_v73 : Ref sig .tc := ⟨.hbm, 170, rfl⟩
abbrev main_cst_16 : Ref sig .tc := ⟨.hbm, 171, rfl⟩
abbrev main_v74 : Ref sig .tc := ⟨.hbm, 172, rfl⟩
abbrev main_cst_17 : Ref sig .tc := ⟨.hbm, 173, rfl⟩
abbrev main_v75 : Ref sig .tc := ⟨.hbm, 174, rfl⟩
abbrev main_cst_18 : Ref sig .tc := ⟨.hbm, 175, rfl⟩
abbrev main_v76 : Ref sig .tc := ⟨.hbm, 176, rfl⟩
abbrev main_v77 : Ref sig .tc := ⟨.hbm, 177, rfl⟩
abbrev main_v78 : Ref sig .tc := ⟨.hbm, 178, rfl⟩
abbrev main_v79 : Ref sig .tc := ⟨.hbm, 179, rfl⟩
abbrev main_v80 : Ref sig .tc := ⟨.hbm, 180, rfl⟩
abbrev main_v81 : Ref sig .tc := ⟨.hbm, 181, rfl⟩
abbrev main_v82 : Ref sig .tc := ⟨.hbm, 182, rfl⟩
abbrev main_cst_19 : Ref sig .tc := ⟨.hbm, 183, rfl⟩
abbrev main_v83 : Ref sig .tc := ⟨.hbm, 184, rfl⟩
abbrev main_v84 : Ref sig .tc := ⟨.hbm, 185, rfl⟩
abbrev main_v85 : Ref sig .tc := ⟨.hbm, 186, rfl⟩
abbrev main_v86 : Ref sig .tc := ⟨.hbm, 187, rfl⟩
abbrev main_cst_20 : Ref sig .tc := ⟨.hbm, 188, rfl⟩
abbrev main_v87 : Ref sig .tc := ⟨.hbm, 189, rfl⟩
abbrev main_v88 : Ref sig .tc := ⟨.hbm, 190, rfl⟩
abbrev main_v89 : Ref sig .tc := ⟨.hbm, 191, rfl⟩
abbrev main_v90 : Ref sig .tc := ⟨.hbm, 192, rfl⟩
abbrev main_v91 : Ref sig .tc := ⟨.hbm, 193, rfl⟩
abbrev main_cst_21 : Ref sig .tc := ⟨.hbm, 194, rfl⟩
abbrev main_v92 : Ref sig .tc := ⟨.hbm, 195, rfl⟩
abbrev main_v93 : Ref sig .tc := ⟨.hbm, 196, rfl⟩
abbrev main_v94 : Ref sig .tc := ⟨.hbm, 197, rfl⟩
abbrev main_v95 : Ref sig .tc := ⟨.hbm, 198, rfl⟩
abbrev main_call6_v0 : Ref sig .tc := ⟨.hbm, 199, rfl⟩
abbrev main_call6_cst : Ref sig .tc := ⟨.hbm, 200, rfl⟩
abbrev main_call6_c : Ref sig .tc := ⟨.hbm, 201, rfl⟩
abbrev main_call6_v1_0 : Ref sig .tc := ⟨.hbm, 202, rfl⟩
abbrev main_v96 : Ref sig .tc := ⟨.hbm, 203, rfl⟩
abbrev main_call7_c : Ref sig .tc := ⟨.hbm, 204, rfl⟩
abbrev main_call7_v0 : Ref sig .tc := ⟨.hbm, 205, rfl⟩
abbrev main_call7_v1 : Ref sig .tc := ⟨.hbm, 206, rfl⟩
abbrev main_call7_c_0 : Ref sig .tc := ⟨.hbm, 207, rfl⟩
abbrev main_call7_v2 : Ref sig .tc := ⟨.hbm, 208, rfl⟩
abbrev main_call7_v3 : Ref sig .tc := ⟨.hbm, 209, rfl⟩
abbrev main_call7_v4 : Ref sig .tc := ⟨.hbm, 210, rfl⟩
abbrev main_call7_v5 : Ref sig .tc := ⟨.hbm, 211, rfl⟩
abbrev main_call7_c_1 : Ref sig .tc := ⟨.hbm, 212, rfl⟩
abbrev main_call7_c_2 : Ref sig .tc := ⟨.hbm, 213, rfl⟩
abbrev main_call7_v6 : Ref sig .tc := ⟨.hbm, 214, rfl⟩
abbrev main_call7_v7 : Ref sig .tc := ⟨.hbm, 215, rfl⟩
abbrev main_call7_v8 : Ref sig .tc := ⟨.hbm, 216, rfl⟩
abbrev main_call7_v9 : Ref sig .tc := ⟨.hbm, 217, rfl⟩
abbrev main_call7_v10 : Ref sig .tc := ⟨.hbm, 218, rfl⟩
abbrev main_call7_v11 : Ref sig .tc := ⟨.hbm, 219, rfl⟩
abbrev main_call7_c_3 : Ref sig .tc := ⟨.hbm, 220, rfl⟩
abbrev main_call7_v12 : Ref sig .tc := ⟨.hbm, 221, rfl⟩
abbrev main_call7_v13 : Ref sig .tc := ⟨.hbm, 222, rfl⟩
abbrev main_call7_v14 : Ref sig .tc := ⟨.hbm, 223, rfl⟩
abbrev main_call7_cst : Ref sig .tc := ⟨.hbm, 224, rfl⟩
abbrev main_call7_v15 : Ref sig .tc := ⟨.hbm, 225, rfl⟩
abbrev main_v97 : Ref sig .tc := ⟨.hbm, 226, rfl⟩
abbrev main_v98 : Ref sig .tc := ⟨.hbm, 227, rfl⟩
abbrev main_v99 : Ref sig .tc := ⟨.hbm, 228, rfl⟩
abbrev main_cst_22 : Ref sig .tc := ⟨.hbm, 229, rfl⟩
abbrev main_v100 : Ref sig .tc := ⟨.hbm, 230, rfl⟩
abbrev main_cst_23 : Ref sig .tc := ⟨.hbm, 231, rfl⟩
abbrev main_v101 : Ref sig .tc := ⟨.hbm, 232, rfl⟩
abbrev main_cst_24 : Ref sig .tc := ⟨.hbm, 233, rfl⟩
abbrev main_v102 : Ref sig .tc := ⟨.hbm, 234, rfl⟩
abbrev main_v103 : Ref sig .tc := ⟨.hbm, 235, rfl⟩
abbrev main_v104 : Ref sig .tc := ⟨.hbm, 236, rfl⟩
abbrev main_v105 : Ref sig .tc := ⟨.hbm, 237, rfl⟩
abbrev main_v106 : Ref sig .tc := ⟨.hbm, 238, rfl⟩
abbrev main_v107 : Ref sig .tc := ⟨.hbm, 239, rfl⟩
abbrev main_v108 : Ref sig .tc := ⟨.hbm, 240, rfl⟩

abbrev nD : Nat := 1
abbrev τ : Topo := Topo.v7x

variable {F : FTy → Type} [FloatOps F]
-- ==== Proof.Math.FirstMin.lean ====
/-
  The first minimum of a row of extended reals, and the two ways of finding it.

  `IsFirstMin d k` says that `d k` is the least value of the row `d` and that no earlier position attains it. A left fold
  with the body of an arg-min finds that position (`foldl_argmin`), and so does the least of the positions whose value
  equals the row's minimum, all other positions replaced by a word that is too large (`fold_minsi_masked`).
-/
module

public import Idealize.ShloMosaic.Lib.Pointwise
public import Idealize.ShloMosaic.PureOps.Reduce
public import Idealize.ShloMosaic.PureOps.Ideal.Laws

@[expose] public section

noncomputable section

namespace Cert.Proof.Math

open Idealize.ShloMosaic

/-- Position `k` of the row `d` holds its least value, and holds it first. -/
def IsFirstMin {n : ℕ} (d : Fin n → EReal) (k : Fin n) : Prop := ∀ j, d k < d j ∨ (d k = d j ∧ k ≤ j)

/-- A row has one first minimum at most. -/
theorem IsFirstMin.unique {n : ℕ} {d : Fin n → EReal} {k l : Fin n} (hk : IsFirstMin d k) (hl : IsFirstMin d l) : k = l := by
  rcases hk l with h | ⟨h, h'⟩ <;> rcases hl k with g | ⟨g, g'⟩
  · exact absurd (h.trans g) (lt_irrefl _)
  · exact absurd (g ▸ h) (lt_irrefl _)
  · exact absurd (h ▸ g) (lt_irrefl _)
  · exact le_antisymm h' g'

/-- A row of positive length has a first minimum. -/
theorem exists_isFirstMin {n : ℕ} [NeZero n] (d : Fin n → EReal) : ∃ k, IsFirstMin d k := by
  obtain ⟨k, hk⟩ := Finite.exists_min (fun k => toLex (d k, k))
  refine ⟨k, fun j => ?_⟩
  have := hk j
  rwa [Prod.Lex.le_iff] at this

/-- The first minimum of a row. -/
def firstMin {n : ℕ} [NeZero n] (d : Fin n → EReal) : Fin n := (exists_isFirstMin d).choose

theorem firstMin_spec {n : ℕ} [NeZero n] (d : Fin n → EReal) : IsFirstMin d (firstMin d) := (exists_isFirstMin d).choose_spec

/-- The value `⊤` of the extended reals is what the pattern of the float +∞ stands for. -/
theorem ofBits_top : Ideal.ofBits .f32 (0x7F800000#32) = ⊤ := by
  simp [Ideal.ofBits, Ideal.ieee]

/-! ### The left fold of an arg-min's body -/

/-- The body of an arg-min over pairs of a value and an index: the lesser value with its index, and of two equal values
    the lesser index. -/
def argminStep (a b : EReal × BitVec 32) : EReal × BitVec 32 :=
  if a.1 < b.1 then a else if a.1 = b.1 then (b.1, if a.2.slt b.2 then a.2 else b.2) else b

/-- One pair comes before another when its value is less, or the values are equal and its index is not greater. -/
def Before (a b : EReal × BitVec 32) : Prop := a.1 < b.1 ∨ (a.1 = b.1 ∧ a.2.toInt ≤ b.2.toInt)

theorem Before.refl (a : EReal × BitVec 32) : Before a a := .inr ⟨rfl, le_rfl⟩

theorem Before.trans {a b c : EReal × BitVec 32} (h : Before a b) (g : Before b c) : Before a c := by
  rcases h with h | ⟨h, h'⟩ <;> rcases g with g | ⟨g, g'⟩
  · exact .inl (h.trans g)
  · exact .inl (g ▸ h)
  · exact .inl (h ▸ g)
  · exact .inr ⟨h.trans g, h'.trans g'⟩

/-- A step of the arg-min gives one of its two operands, and it comes before both. -/
theorem argminStep_spec (a b : EReal × BitVec 32) :
    (argminStep a b = a ∨ argminStep a b = b) ∧ Before (argminStep a b) a ∧ Before (argminStep a b) b := by
  obtain ⟨x, i⟩ := a
  obtain ⟨y, j⟩ := b
  unfold argminStep
  by_cases h : x < y
  · simp only [h, if_true]
    exact ⟨.inl trivial, .refl _, .inl h⟩
  · by_cases e : x = y
    · subst e
      by_cases s : i.slt j
      · simp only [lt_irrefl, if_false, if_true, s]
        exact ⟨.inl trivial, .refl _, .inr ⟨rfl, by simpa [BitVec.slt] using (le_of_lt (by simpa [BitVec.slt] using s))⟩⟩
      · simp only [lt_irrefl, if_false, if_true, s]
        refine ⟨.inr (by simp), .inr ⟨rfl, ?_⟩, ?_⟩
        · simpa [BitVec.slt] using s
        · simpa using Before.refl (x, j)
    · simp only [h, e, if_false]
      exact ⟨.inr trivial, .inl (lt_of_le_of_ne (not_lt.mp h) (Ne.symm e)), .refl _⟩

/-- The left fold of the arg-min's body over a list gives the initial pair or a member of the list, and it comes before
    all of them. -/
theorem foldl_argminStep_spec (L : List (EReal × BitVec 32)) (p : EReal × BitVec 32) :
    (L.foldl argminStep p = p ∨ L.foldl argminStep p ∈ L) ∧ Before (L.foldl argminStep p) p
      ∧ ∀ q ∈ L, Before (L.foldl argminStep p) q := by
  induction L generalizing p with
  | nil => exact ⟨.inl rfl, .refl _, by simp⟩
  | cons b L ih =>
    obtain ⟨h1, h2, h3⟩ := ih (argminStep p b)
    obtain ⟨s1, s2, s3⟩ := argminStep_spec p b
    simp only [List.foldl_cons]
    refine ⟨?_, h2.trans s2, ?_⟩
    · rcases h1 with h1 | h1
      · rcases s1 with s1 | s1
        · exact .inl (h1.trans s1)
        · exact .inr (List.mem_cons.mpr (.inl (h1.trans s1)))
      · exact .inr (List.mem_cons_of_mem _ h1)
    · intro q hq
      rcases List.mem_cons.mp hq with rfl | hq
      · exact h2.trans s3
      · exact h3 q hq

/-- The signed reading of a position below 2³¹ as a word. -/
theorem toInt_ofNat_lt {n : ℕ} (h : n < 2147483648) : (BitVec.ofNat 32 n).toInt = n := by
  rw [BitVec.toInt_eq_toNat_of_lt] <;> simp only [BitVec.toNat_ofNat] <;> omega

/-- The arg-min's fold over a row with its positions, in any order and from +∞ and position 0, finds the first minimum. -/
theorem foldl_argmin {n : ℕ} (hn : n < 2147483648) {d : Fin n → EReal} {k : Fin n} (hk : IsFirstMin d k)
    (L : List (EReal × BitVec 32)) (hL : ∀ p, p ∈ L ↔ ∃ j : Fin n, p = (d j, BitVec.ofNat 32 j.val)) :
    (L.foldl argminStep (⊤, 0#32)).2 = BitVec.ofNat 32 k.val := by
  obtain ⟨h1, h2, h3⟩ := foldl_argminStep_spec L (⊤, 0#32)
  have hb := h3 (d k, BitVec.ofNat 32 k.val) ((hL _).mpr ⟨k, rfl⟩)
  rcases h1 with h1 | h1
  · rw [h1] at hb ⊢
    rcases hb with hb | ⟨hb, hb'⟩
    · exact absurd hb not_top_lt
    · have hz := hk ⟨0, k.pos⟩
      simp only at hb
      rcases hz with hz | ⟨_, hz⟩
      · exact absurd (hb ▸ hz) not_top_lt
      · have : k.val = 0 := Nat.le_zero.mp hz
        simp [this]
  · obtain ⟨j, hj⟩ := (hL _).mp h1
    rw [hj] at hb ⊢
    have hkj := hk j
    have hkl := k.isLt
    have hjl := j.isLt
    rcases hb with hb | ⟨hb, hb'⟩
    · rcases hkj with g | ⟨g, _⟩
      · exact absurd (hb.trans g) (lt_irrefl _)
      · exact absurd (g ▸ hb) (lt_irrefl _)
    · rcases hkj with g | ⟨_, g⟩
      · exact absurd (lt_of_eq_of_lt (show d j = d k from hb) g) (lt_irrefl _)
      · simp only at hb'
        rw [toInt_ofNat_lt (by omega), toInt_ofNat_lt (by omega)] at hb'
        have : j = k := le_antisymm (by exact_mod_cast hb') g
        rw [this]

/-! ### The least position among those that hold the minimum -/

theorem toInt_minsi (a b : BitVec 32) : (IntOp.minsi a b).toInt ≤ a.toInt ∧ (IntOp.minsi a b).toInt ≤ b.toInt
    ∧ (IntOp.minsi a b = a ∨ IntOp.minsi a b = b) := by
  unfold IntOp.minsi
  by_cases h : a.slt b
  · simp only [h, if_true]
    have : a.toInt < b.toInt := by simpa [BitVec.slt] using h
    exact ⟨le_rfl, this.le, .inl trivial⟩
  · simp only [h]
    have : b.toInt ≤ a.toInt := by simpa [BitVec.slt] using h
    exact ⟨this, le_rfl, .inr rfl⟩

/-- The fold of the signed minimum is at most the start and every value, and is one of them. -/
theorem fold_minsi_spec {ι : Type} [DecidableEq ι] (s : Finset ι) (b : BitVec 32) (f : ι → BitVec 32) :
    (s.fold IntOp.minsi b f).toInt ≤ b.toInt ∧ (∀ x ∈ s, (s.fold IntOp.minsi b f).toInt ≤ (f x).toInt)
      ∧ (s.fold IntOp.minsi b f = b ∨ ∃ x ∈ s, s.fold IntOp.minsi b f = f x) := by
  induction s using Finset.induction_on with
  | empty => simp
  | insert a s ha ih =>
    rw [Finset.fold_insert ha]
    obtain ⟨h1, h2, h3⟩ := ih
    obtain ⟨m1, m2, m3⟩ := toInt_minsi (f a) (s.fold IntOp.minsi b f)
    refine ⟨m2.trans h1, ?_, ?_⟩
    · intro x hx
      rcases Finset.mem_insert.mp hx with rfl | hx
      · exact m1
      · exact m2.trans (h2 x hx)
    · rcases m3 with m3 | m3
      · exact .inr ⟨a, Finset.mem_insert_self _ _, m3⟩
      · rcases h3 with h3 | ⟨x, hx, h3⟩
        · exact .inl (m3.trans h3)
        · exact .inr ⟨x, Finset.mem_insert_of_mem hx, m3.trans h3⟩

/-- The fold of the minimum over a row from +∞ is the row's value at its first minimum. -/
theorem fold_min_eq {n : ℕ} {d : Fin n → EReal} {k : Fin n} (hk : IsFirstMin d k) :
    Finset.fold min ⊤ d Finset.univ = d k := by
  apply le_antisymm
  · rw [Finset.fold_min_le]
    exact .inr ⟨k, Finset.mem_univ _, le_rfl⟩
  · rw [Finset.le_fold_min]
    refine ⟨le_top, fun j _ => ?_⟩
    rcases hk j with h | ⟨h, _⟩
    · exact h.le
    · exact h.le

/-- The least of the positions whose value equals the row's minimum is the first minimum, if every other position is
    replaced by a word `b` that no position reaches. -/
theorem fold_minsi_masked {n : ℕ} {d : Fin n → EReal} {k : Fin n} (hk : IsFirstMin d k) (m : EReal) (hm : m = d k)
    (b : BitVec 32) (hn : (n : ℤ) ≤ b.toInt) (hn' : n < 2147483648) (f : Fin n → BitVec 32)
    (hf : ∀ j, f j = if d j = m then BitVec.ofNat 32 j.val else b) :
    Finset.fold IntOp.minsi 2147483647#32 f Finset.univ = BitVec.ofNat 32 k.val := by
  obtain ⟨-, h2, h3⟩ := fold_minsi_spec Finset.univ 2147483647#32 f
  have hkl := k.isLt
  have hfk : (f k).toInt = k.val := by rw [hf, if_pos hm.symm, toInt_ofNat_lt (by omega)]
  have hle := h2 k (Finset.mem_univ _)
  rw [hfk] at hle
  rcases h3 with h3 | ⟨j, -, h3⟩
  · rw [h3] at hle
    have : (2147483647#32 : BitVec 32).toInt = 2147483647 := by decide
    omega
  · rw [h3] at hle ⊢
    rw [hf] at hle ⊢
    by_cases hj : d j = m
    · rw [if_pos hj] at hle ⊢
      have hjl := j.isLt
      rw [toInt_ofNat_lt (by omega)] at hle
      rcases hk j with g | ⟨_, g⟩
      · rw [hj, hm] at g
        exact absurd g (lt_irrefl _)
      · have : j = k := le_antisymm (by exact_mod_cast hle) g
        rw [this]
    · rw [if_neg hj] at hle
      omega

end Cert.Proof.Math

end
-- ==== Proof.Math.Quantise.lean ====
/-
  One stage of the quantiser on one row, and the table lookup by a matrix product.

  `pick C r` is the number of the codebook row nearest to `r`. A lookup of row `p` in a codebook of 1024 rows of 64 numbers
  can be done as a product with a one-hot row: the codebook is laid out as 256 groups of four rows, the product with the
  one-hot row of `p / 4` gives the group, and `p mod 4` chooses among its four parts. The layout holds three tables below
  each other; where the second and third are zero the product gives the codebook's own numbers.
-/
module

public import proofs.«01_k».proof.Proof.Math.FirstMin

@[expose] public section

noncomputable section

namespace Cert.Proof.Math

open Idealize.ShloMosaic

/-- A matrix as a function of its row and column. -/
abbrev mat {n m : ℕ} (C : FVec Ideal ⟨2, ![n, m]⟩ .f32) : Fin n → Fin m → EReal := fun i j => C (ix2 i j)

/-- The squared distance from a row `r` to a row `c` of 64 numbers, as both programs expand it. -/
def sqDist (r c : Fin 64 → EReal) : EReal :=
  ∑ x, r x * r x - Ideal.ofBits .f32 0x40000000#32 * ∑ x, r x * c x + ∑ x, c x * c x

/-- The number of the codebook row nearest to a row `r`. -/
def pick (C : Fin 1024 → Fin 64 → EReal) (r : Fin 64 → EReal) : Fin 1024 := firstMin fun k => sqDist r (C k)

/-- The squared error a stage leaves in row `r`. -/
def rowErr (C : Fin 1024 → Fin 64 → EReal) (r : Fin 64 → EReal) : EReal :=
  ∑ x, (C (pick C r) x - r x) * (C (pick C r) x - r x)

theorem shift_two (p : Fin 1024) : IntOp.shrsi .vector (BitVec.ofNat 32 p.val) 2#32 = BitVec.ofNat 32 (p.val / 4) := by
  revert p
  decide +kernel

theorem low_bits (p : Fin 1024) : IntOp.andi (BitVec.ofNat 32 p.val) 3#32 = BitVec.ofNat 32 (p.val % 4) := by
  revert p
  decide +kernel

theorem low_byte (x : Fin 768) : IntOp.andi (BitVec.ofNat 32 x.val) 255#32 = BitVec.ofNat 32 (x.val % 256) := by
  revert x
  decide +kernel

theorem cmpi_eq_ofNat {a b : ℕ} (ha : a < 4294967296) (hb : b < 4294967296) :
    IntOp.cmpi .eq (BitVec.ofNat 32 a) (BitVec.ofNat 32 b) = if a = b then 1#1 else 0#1 := by
  have : BitVec.ofNat 32 a = BitVec.ofNat 32 b ↔ a = b := by
    rw [← BitVec.toNat_inj, BitVec.toNat_ofNat, BitVec.toNat_ofNat, Nat.mod_eq_of_lt ha, Nat.mod_eq_of_lt hb]
  by_cases h : a = b
  · simp [IntOp.cmpi, h]
  · have h' := mt this.mp h
    simp only [IntOp.cmpi, beq_eq_false_iff_ne.mpr h', h, if_false]
    rfl

/-- The one-hot entry at column `x` for the index `p`: 1 where `x` modulo 256 is the number of `p`'s group. -/
theorem oneHot_apply (p : Fin 1024) (x : Fin 768) :
    (FloatOps.sitofp .f32 (BitVec.setWidth 32 (IntOp.cmpi .eq (IntOp.andi (BitVec.ofNat 32 x.val) 255#32)
      (IntOp.shrsi .vector (BitVec.ofNat 32 p.val) 2#32))) : Ideal .f32) = if x.val % 256 = p.val / 4 then (1 : EReal) else 0 := by
  have := p.isLt
  have := x.isLt
  rw [shift_two, low_byte, cmpi_eq_ofNat (by omega) (by omega)]
  by_cases h : x.val % 256 = p.val / 4
  · simp only [h, if_true]
    show (((BitVec.setWidth 32 1#1).toInt : ℝ) : EReal) = 1
    rw [show (BitVec.setWidth 32 1#1).toInt = 1 by decide]
    simp
  · simp only [h, if_false]
    show (((BitVec.setWidth 32 0#1).toInt : ℝ) : EReal) = 0
    rw [show (BitVec.setWidth 32 0#1).toInt = 0 by decide]
    simp

/-- `p`'s group, as a row of the first of three tables of 256 rows. -/
def group (p : Fin 1024) : Fin 768 := ⟨p.val / 4, by have := p.isLt; omega⟩

/-- The product of `p`'s one-hot row with a column that is zero below its first 256 entries: the entry of `p`'s group. -/
theorem oneHot_sum (p : Fin 1024) (g : Fin 768 → EReal) (hg : ∀ x, 256 ≤ x.val → g x = 0) :
    ∑ x : Fin 768, (if x.val % 256 = p.val / 4 then (1 : EReal) else 0) * g x = g (group p) := by
  have hp := p.isLt
  rw [Finset.sum_eq_single (group p)]
  · have : (group p).val % 256 = p.val / 4 := Nat.mod_eq_of_lt (show p.val / 4 < 256 by omega)
    rw [if_pos this, one_mul]
  · intro x _ hx
    by_cases h : x.val < 256
    · rw [if_neg, zero_mul]
      intro e
      rw [Nat.mod_eq_of_lt h] at e
      exact hx (Fin.ext e)
    · rw [hg x (by omega), mul_zero]
  · intro h
    exact absurd (Finset.mem_univ _) h

/-- A choice among four numbers by the two low bits of `p`, as a sum of four terms of which three are zero. -/
theorem choose_four (p : Fin 1024) (t : Fin 4 → EReal) :
    Scalar.select (IntOp.cmpi .eq (IntOp.andi (BitVec.ofNat 32 p.val) 3#32) 0#32) (t 0) 0
      + Scalar.select (IntOp.cmpi .eq (IntOp.andi (BitVec.ofNat 32 p.val) 3#32) 1#32) (t 1) 0
      + Scalar.select (IntOp.cmpi .eq (IntOp.andi (BitVec.ofNat 32 p.val) 3#32) 2#32) (t 2) 0
      + Scalar.select (IntOp.cmpi .eq (IntOp.andi (BitVec.ofNat 32 p.val) 3#32) 3#32) (t 3) 0
      = t ⟨p.val % 4, Nat.mod_lt _ (by decide)⟩ := by
  rw [low_bits]
  generalize hq : (⟨p.val % 4, Nat.mod_lt _ (by decide)⟩ : Fin 4) = q
  have e : p.val % 4 = q.val := by rw [← hq]
  rw [e]
  have s1 : ∀ a b : EReal, Scalar.select 1#1 a b = a := fun _ _ => rfl
  have s0 : ∀ a b : EReal, Scalar.select 0#1 a b = b := fun _ _ => rfl
  fin_cases q <;> simp [IntOp.cmpi, s0, s1]

/-- A table of 768 rows of 256 numbers lays the codebook `C` out: in its first 256 rows, row `g` holds the codebook's rows
    `4g` to `4g + 3`; its other rows are zero. -/
def Layout (C : Fin 1024 → Fin 64 → EReal) (G : Fin 768 → Fin 256 → EReal) : Prop :=
  (∀ (p : Fin 1024) (j : Fin 64),
      G (group p) ⟨64 * (p.val % 4) + j.val, by have := j.isLt; omega⟩ = C p j)
    ∧ ∀ (x : Fin 768) (c : Fin 256), 256 ≤ x.val → G x c = 0

end Cert.Proof.Math

end
-- ==== Proof.Finite.lean ====
/-
  What the precondition says: the codebooks' entries are finite.

  The precondition compares the size of each entry with infinity and takes the conjunction. Where it holds, an entry less
  itself is zero.
-/
module

public import proofs.«01_k».proof.Proof.Gen.Pre_finite_codebooks
public import proofs.«01_k».proof.Proof.Math.Quantise
public import Idealize.ShloMosaic.Lib.ReduceAll
public import Idealize.ShloMosaic.Lib.Pointwise

@[expose] public section

noncomputable section

namespace Cert.Proof

open Cert.Pre_finite_codebooks Cert.Pre_finite_codebooks.Gen
open Idealize.ShloMosaic

/-- There is one index of no axes. -/
instance : Subsingleton S_.Idx := ⟨fun _ _ => funext fun a => a.elim0⟩

/-- An entry whose size is below infinity, less itself, is zero. -/
theorem sub_self_of_abs_lt (x : EReal) (h : max x (-x) < ⊤) : x - x = 0 := by
  induction x using EReal.rec with
  | bot => simp at h
  | top => simp at h
  | coe a => rw [← EReal.coe_sub, sub_self]; rfl

/-- Where the precondition holds, every entry less itself is zero. -/
theorem sub_self_of_pre (z : FVec Ideal S32x576x64 .f32) (cb : FVec Ideal S4x1024x64 .f32)
    (h : Cert.Pre_finite_codebooks.fn (F := Ideal) z cb = fun _ => 1#1) (i : S4x1024x64.Idx) : cb i - cb i = 0 := by
  have e := congrFun h ix0
  dsimp only [Cert.Pre_finite_codebooks.fn] at e
  have one := Host.reduce_andi_all _ _ _ _ _ e i
  refine sub_self_of_abs_lt (cb i) ?_
  have lt : Ideal.cmp .olt (max (cb i) (-cb i)) (Ideal.ofBits .f32 0x7F800000#32) = 1#1 := one
  rw [Cert.Proof.Math.ofBits_top] at lt
  by_contra hn
  have zero : Ideal.cmp .olt (max (cb i) (-cb i)) ⊤ = 0#1 := by simp [Ideal.cmp, hn]
  rw [zero] at lt
  exact absurd lt (by decide)

end Cert.Proof

end
-- ==== Proof.KI.Run.lean ====
/-
  The kernel's run: what every execution leaves in every buffer of the program.

  The program is host operations around five pallas_calls; the contents at each boundary are `W0` … `W11`, each a function of
  the one before. Every execution ends with every buffer at `W11` (`run_main`).
-/
module

public import proofs.«01_k».proof.Proof.Gen.KernelIdeal.Frame

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel's program ends, with every buffer of the TensorCore at `W11`. -/
theorem run_main : θ_run defs (onTc (τ := τ) (main (F := F))) ⟨m, fun _ => 0, ρ⟩ (fun r =>
      ∀ c : Dev nD, ∀ b ∈ Pipeline.ucRefs τ sig, r.2.mem (((c : Thread nD τ)).1, b) = W11 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ => h)

end Cert.Proof.KI

end
-- ==== Proof.KI.Block.lean ====
/-
  What one block of a stage computes: 1024 rows of the residual against the whole codebook.

  `idxBlock`, `rowsBlock`, `nextBlock`, `errBlock` are the four values the body of a stage's kernel stores, as functions of
  the blocks it loads: the rows' nearest indices, the codebook's rows at them, the rows' next residual, and the block's sum
  of squared errors. Over the extended reals they are `pick`, the codebook's rows, their difference and the sum of `rowErr`,
  if the squared norms that are passed in are the rows' own and the table lays the codebook out.
-/
module

public import proofs.«01_k».proof.Proof.Gen.KernelIdeal.Skeleton
public import proofs.«01_k».proof.Proof.Math.Quantise
public import Idealize.ShloMosaic.Lib.Pointwise

@[expose] public section

noncomputable section

namespace Cert.Proof.KI

open Cert.KernelIdeal Cert.KernelIdeal.Gen Cert.Proof.Math
open Idealize.ShloMosaic Idealize.SL.Sem

section Any
variable {F : FTy → Type} [FloatOps F]
variable (r : Vec F S1024x64 .f32) (r2 : Vec F S1024x1 .f32) (c2 : Vec F S1x1x1024 .f32) (C : Vec F S1024x64 .f32)
  (G : Vec F S768x256 .f32)

/-- The indices a block stores. -/
def idxBlock : IVec S1x1x1024 32 := k1_pay1 (k1_pay6 r r2 c2 C)

/-- The codebook rows a block stores. -/
def rowsBlock : FVec F S1024x64 .f32 :=
  k1_pay10 (k1_pay7 r r2 c2 C) (k1_pay8 r r2 c2 C) (k1_pay9 G) (constant S1024x256 .f32 0x00000000#32)

/-- The next residual a block stores. -/
def nextBlock : FVec F S1024x64 .f32 :=
  k1_pay12 (k1_pay3 r) (k1_pay7 r r2 c2 C) (k1_pay8 r r2 c2 C) (k1_pay9 G) (constant S1024x256 .f32 0x00000000#32)

/-- The sum of squared errors a block adds to the loss. -/
def errBlock : F .f32 :=
  k1_pay11 (k1_pay3 r) (k1_pay7 r r2 c2 C) (k1_pay8 r r2 c2 C) (k1_pay9 G) (constant S1024x256 .f32 0x00000000#32)

end Any

/-! ### Over the extended reals -/

variable (r : Vec Ideal S1024x64 .f32) (r2 : Vec Ideal S1024x1 .f32) (c2 : Vec Ideal S1x1x1024 .f32)
  (C : Vec Ideal S1024x64 .f32) (G : Vec Ideal S768x256 .f32)

/-- The squared norms passed to a block are those of its rows and of the codebook's rows. -/
structure Norms : Prop where
  row : ∀ i : Fin 1024, r2 (ix2 i 0) = ∑ x, mat r i x * mat r i x
  book : ∀ k : Fin 1024, c2 (ix3 0 0 k) = ∑ x, mat C k x * mat C k x

variable {r r2 c2 C G}

/-- The masked positions: column `k` where the distance is the row's least, 1024 elsewhere. -/
theorem masked_apply (h : Norms r r2 c2 C) (i k : Fin 1024) :
    k1_pay4 r r2 c2 C (ix2 i k) = if sqDist (mat r i) (mat C k) = Finset.fold min ⊤ (fun k => sqDist (mat r i) (mat C k)) Finset.univ
      then BitVec.ofNat 32 k.val else 1024#32 := by
  have e : k1_pay4 r r2 c2 C (ix2 i k)
      = if r2 (ix2 i 0) - Ideal.ofBits .f32 1073741824#32 * ∑ x, r (ix2 i x) * C (ix2 k x) + c2 (ix3 0 0 k)
          = Finset.fold min (Ideal.ofBits .f32 2139095040#32)
            (fun k => r2 (ix2 i 0) - Ideal.ofBits .f32 1073741824#32 * ∑ x, r (ix2 i x) * C (ix2 k x) + c2 (ix3 0 0 k)) Finset.univ
        then BitVec.ofNat 32 k.val else 1024#32 := by
    pointwise [k1_pay4, k1_pay3]
  rw [e, ofBits_top]
  simp only [h.row, h.book]
  rfl

/-- The least masked position of row `i` is the row's nearest index. -/
theorem least_masked (h : Norms r r2 c2 C) (i : Fin 1024) :
    Finset.fold IntOp.minsi 2147483647#32 (fun k => k1_pay4 r r2 c2 C (ix2 i k)) Finset.univ
      = BitVec.ofNat 32 (pick (mat C) (mat r i)).val := by
  have hk := firstMin_spec fun k => sqDist (mat r i) (mat C k)
  exact fold_minsi_masked hk _ (fold_min_eq hk) 1024#32 (by decide) (by decide) _ fun k => masked_apply h i k

theorem idxBlock_apply (h : Norms r r2 c2 C) (i : Fin 1024) :
    idxBlock r r2 c2 C (ix3 0 0 i) = BitVec.ofNat 32 (pick (mat C) (mat r i)).val := by
  rw [← least_masked h i]
  unfold idxBlock
  pointwise [k1_pay1, k1_pay6]

theorem index_column (h : Norms r r2 c2 C) (i : Fin 1024) :
    k1_pay5 r r2 c2 C (ix2 i 0) = BitVec.ofNat 32 (pick (mat C) (mat r i)).val := by
  rw [← least_masked h i]
  pointwise [k1_pay5]

/-- The product of the one-hot rows with the table, at row `i`: the table's entry at the group of the row's index. -/
theorem product_apply (h : Norms r r2 c2 C) (hG : Layout (mat C) (mat G)) (i : Fin 1024) (c : Fin 256) :
    ∑ x, k1_pay8 r r2 c2 C (ix2 i x) * k1_pay9 G (ix2 x c) = mat G (group (pick (mat C) (mat r i))) c := by
  rw [← oneHot_sum (pick (mat C) (mat r i)) (fun x => mat G x c) fun x hx => hG.2 x c hx]
  refine Finset.sum_congr rfl fun x _ => ?_
  have e8 : k1_pay8 r r2 c2 C (ix2 i x) = FloatOps.sitofp .f32 (BitVec.setWidth 32 (IntOp.cmpi .eq
      (IntOp.andi (BitVec.ofNat 32 x.val) 255#32) (IntOp.shrsi .vector (k1_pay5 r r2 c2 C (ix2 i 0)) 2#32))) := by
    pointwise [k1_pay8]
  have e9 : k1_pay9 G (ix2 x c) = G (ix2 x c) := by pointwise [k1_pay9]
  rw [e8, e9, index_column h, oneHot_apply]

theorem rowsBlock_apply (h : Norms r r2 c2 C) (hG : Layout (mat C) (mat G)) (i : Fin 1024) (j : Fin 64) :
    rowsBlock r r2 c2 C G (ix2 i j) = mat C (pick (mat C) (mat r i)) j := by
  have e7 : k1_pay7 r r2 c2 C (ix2 i 0) = IntOp.andi (BitVec.ofNat 32 (pick (mat C) (mat r i)).val) 3#32 := by
    rw [← index_column h i]
    pointwise [k1_pay7]
  have key := choose_four (pick (mat C) (mat r i)) fun q =>
    mat G (group (pick (mat C) (mat r i))) ⟨64 * q.val + j.val, by have := j.isLt; have := q.isLt; omega⟩
  rw [← hG.1, ← key]
  simp only [← product_apply h hG]
  rw [← e7]
  unfold rowsBlock
  generalize k1_pay7 r r2 c2 C = a
  generalize k1_pay8 r r2 c2 C = b
  generalize k1_pay9 G = g
  pointwise [k1_pay10]

theorem nextBlock_apply (h : Norms r r2 c2 C) (hG : Layout (mat C) (mat G)) (i : Fin 1024) (j : Fin 64) :
    nextBlock r r2 c2 C G (ix2 i j) = mat r i j - mat C (pick (mat C) (mat r i)) j := by
  rw [← rowsBlock_apply h hG]
  unfold nextBlock rowsBlock
  pointwise [k1_pay12, k1_pay3]

theorem errBlock_eq (h : Norms r r2 c2 C) (hG : Layout (mat C) (mat G)) :
    errBlock r r2 c2 C G = ∑ i, rowErr (mat C) (mat r i) := by
  simp only [rowErr, ← rowsBlock_apply h hG]
  unfold errBlock rowsBlock
  generalize k1_pay7 r r2 c2 C = a
  generalize k1_pay8 r r2 c2 C = b
  generalize k1_pay9 G = g
  pointwise [k1_pay11, k1_pay3]

end Cert.Proof.KI

end
-- ==== Proof.KI.Body.lean ====
/-
  What the body of a stage's kernel leaves in its output blocks, read off its run.

  At the grid's first point the loss starts from zero; at every later point it continues from what the point before left.
  The other three outputs do not depend on the point. The four stages run one body, so what is read off the first stage's
  run holds for the other three.
-/
module

public import proofs.«01_k».proof.Proof.KI.Block
public import proofs.«01_k».proof.Proof.Gen.KernelIdeal.Frame
public import Idealize.ShloMosaic.Lib.Pipeline.Value

@[expose] public section

noncomputable section

namespace Cert.Proof.KI

open Cert.KernelIdeal Cert.KernelIdeal.Gen
open Idealize.ShloMosaic Idealize.ShloMosaic.TcCoe Idealize.SL.Sem

variable {F : FTy → Type} [FloatOps F]

theorem zeros2 : (![0, 0] : Fin 2 → ℕ) = fun _ => 0 := funext fun a => by fin_cases a <;> rfl

theorem zeros3 : (![0, 0, 0] : Fin 3 → ℕ) = fun _ => 0 := funext fun a => by fin_cases a <;> rfl

/-- A block of one entry has one index. -/
theorem only1 (x y : S1x1.Idx) : x = y :=
  Shape.idx_ext₂ (by have := (x 0).isLt; have := (y 0).isLt; simp at *; omega)
    (by have := (x 1).isLt; have := (y 1).isLt; simp at *; omega)

/-- A block's four stored values, with the loss `l` it adds to. -/
def stored (r : Vec F S1024x64 .f32) (r2 : Vec F S1024x1 .f32) (c2 : Vec F S1x1x1024 .f32) (C : Vec F S1024x64 .f32)
    (G : Vec F S768x256 .f32) (l : F .f32) : Vec F S1024x64 .f32 × Vec F S1024x64 .f32 × Vec F S1x1x1024 .i32 × Vec F S1x1 .f32 :=
  (rowsBlock r r2 c2 C G, nextBlock r r2 c2 C G, idxBlock r r2 c2 C, fun _ => Scalar.addf l (errBlock r r2 c2 C G))

theorem stored_congr {r r' : Vec F S1024x64 .f32} {r2 r2' : Vec F S1024x1 .f32} {c2 c2' : Vec F S1x1x1024 .f32}
    {C C' : Vec F S1024x64 .f32} {G G' : Vec F S768x256 .f32} {l l' : F .f32} (h1 : r = r') (h2 : r2 = r2') (h3 : c2 = c2')
    (h4 : C = C') (h5 : G = G') (h6 : l = l') : stored r r2 c2 C G l = stored r' r2' c2' C' G' l' := by
  rw [h1, h2, h3, h4, h5, h6]

section Runs
variable (c : Dev nD) (i : grid1.Coords)
  (a1 : Memref sig .tc .vmem S1024x64 .f32) (h1 : a1.IsWhole) (a2 : Memref sig .tc .vmem S1024x1 .f32) (h2 : a2.IsWhole)
  (a3 : Memref sig .tc .vmem S1x1x1024 .f32) (h3 : a3.IsWhole) (a4 : Memref sig .tc .vmem S1024x64 .f32) (h4 : a4.IsWhole)
  (a5 : Memref sig .tc .vmem S768x256 .f32) (h5 : a5.IsWhole) (a6 : Memref sig .tc .vmem S1024x64 .f32) (h6 : a6.IsWhole)
  (a7 : Memref sig .tc .vmem S1024x64 .f32) (h7 : a7.IsWhole) (a8 : Memref sig .tc .vmem S1x1x1024 .i32) (h8 : a8.IsWhole)
  (a9 : Memref sig .tc .smem S1x1 .f32) (h9 : a9.IsWhole)
  (r : Vec F S1024x64 .f32) (r2 : Vec F S1024x1 .f32) (c2 : Vec F S1x1x1024 .f32) (C : Vec F S1024x64 .f32)
  (G : Vec F S768x256 .f32) (l : Vec F S1x1 .f32)

theorem first_rows (hc : cond1_0 i) : out1_A_5 c i a1 h1 a2 h2 a3 h3 a4 h4 a5 h5 a6 h6 a7 h7 a8 h8 a9 h9 hc r r2 c2 C G
    = rowsBlock r r2 c2 C G := by
  unfold out1_A_5
  rw [View.read_writes_eq_canon _ _ _ (cover1_A_5 c i a1 h1 a2 h2 a3 h3 a4 h4 a5 h5 a6 h6 a7 h7 a8 h8 a9 h9 hc r r2 c2 C G)]
  unfold kernelRun1_A
  dsimp only
  sl_unfold_words
  rw [View.canon_cons_unit_zero (S := S1024x64) zeros2]
  simp only [View.readCov_unit_zero (S := S1x1) _ zeros2, View.readAt_eq_ld, h1.read_unread, h2.read_unread, h3.read_unread,
    h4.read_unread, h5.read_unread, h9.read_unread, View.ld_unit_zero (S := S1024x64) zeros2, View.ld_unit_zero (S := S1024x1) zeros2,
    View.ld_unit_zero (S := S1x1x1024) zeros3, View.ld_unit_zero (S := S768x256) zeros2, View.ld_unit_zero (S := S1x1) zeros2]
  rfl

theorem first_next (hc : cond1_0 i) : out1_A_6 c i a1 h1 a2 h2 a3 h3 a4 h4 a5 h5 a6 h6 a7 h7 a8 h8 a9 h9 hc r r2 c2 C G
    = nextBlock r r2 c2 C G := by
  unfold out1_A_6
  rw [View.read_writes_eq_canon _ _ _ (cover1_A_6 c i a1 h1 a2 h2 a3 h3 a4 h4 a5 h5 a6 h6 a7 h7 a8 h8 a9 h9 hc r r2 c2 C G)]
  unfold kernelRun1_A
  dsimp only
  sl_unfold_words
  rw [View.canon_cons_unit_zero (S := S1024x64) zeros2]
  simp only [View.readCov_unit_zero (S := S1x1) _ zeros2, View.readAt_eq_ld, h1.read_unread, h2.read_unread, h3.read_unread,
    h4.read_unread, h5.read_unread, h9.read_unread, View.ld_unit_zero (S := S1024x64) zeros2, View.ld_unit_zero (S := S1024x1) zeros2,
    View.ld_unit_zero (S := S1x1x1024) zeros3, View.ld_unit_zero (S := S768x256) zeros2, View.ld_unit_zero (S := S1x1) zeros2]
  rfl

theorem first_idx (hc : cond1_0 i) : out1_A_7 c i a1 h1 a2 h2 a3 h3 a4 h4 a5 h5 a6 h6 a7 h7 a8 h8 a9 h9 hc r r2 c2 C G
    = idxBlock r r2 c2 C := by
  unfold out1_A_7
  rw [View.read_writes_eq_canon _ _ _ (cover1_A_7 c i a1 h1 a2 h2 a3 h3 a4 h4 a5 h5 a6 h6 a7 h7 a8 h8 a9 h9 hc r r2 c2 C G)]
  unfold kernelRun1_A
  dsimp only
  sl_unfold_words
  rw [View.canon_cons_unit_zero (S := S1x1x1024) zeros3]
  simp only [View.readCov_unit_zero (S := S1x1) _ zeros2, View.readAt_eq_ld, h1.read_unread, h2.read_unread, h3.read_unread,
    h4.read_unread, h5.read_unread, h9.read_unread, View.ld_unit_zero (S := S1024x64) zeros2, View.ld_unit_zero (S := S1024x1) zeros2,
    View.ld_unit_zero (S := S1x1x1024) zeros3, View.ld_unit_zero (S := S768x256) zeros2, View.ld_unit_zero (S := S1x1) zeros2]
  rfl

theorem first_loss (hc : cond1_0 i) : out1_A_8 c i a1 h1 a2 h2 a3 h3 a4 h4 a5 h5 a6 h6 a7 h7 a8 h8 a9 h9 hc r r2 c2 C G
    = fun _ => Scalar.addf (Scalar.ofBits .f32 0x00000000#32) (errBlock r r2 c2 C G) := by
  unfold out1_A_8
  rw [View.read_writes_eq_canon _ _ _ (cover1_A_8 c i a1 h1 a2 h2 a3 h3 a4 h4 a5 h5 a6 h6 a7 h7 a8 h8 a9 h9 hc r r2 c2 C G)]
  unfold kernelRun1_A
  dsimp only
  sl_unfold_words
  rw [View.canon_cons_unit_zero (S := S1x1) zeros2]
  simp only [View.readCov_unit_zero (S := S1x1) _ zeros2, View.readAt_eq_ld, h1.read_unread, h2.read_unread, h3.read_unread,
    h4.read_unread, h5.read_unread, h9.read_unread, View.ld_unit_zero (S := S1024x64) zeros2, View.ld_unit_zero (S := S1024x1) zeros2,
    View.ld_unit_zero (S := S1x1x1024) zeros3, View.ld_unit_zero (S := S768x256) zeros2, View.ld_unit_zero (S := S1x1) zeros2]
  rfl

theorem later_rows (hc : ¬cond1_0 i) : out1_B_5 c i a1 h1 a2 h2 a3 h3 a4 h4 a5 h5 a6 h6 a7 h7 a8 h8 a9 h9 hc r r2 c2 C G l
    = rowsBlock r r2 c2 C G := by
  unfold out1_B_5
  rw [View.read_writes_eq_canon _ _ _ (cover1_B_5 c i a1 h1 a2 h2 a3 h3 a4 h4 a5 h5 a6 h6 a7 h7 a8 h8 a9 h9 hc r r2 c2 C G l)]
  unfold kernelRun1_B
  dsimp only
  sl_unfold_words
  rw [View.canon_cons_unit_zero (S := S1024x64) zeros2]
  simp only [View.readCov_unit_zero (S := S1x1) _ zeros2, View.readAt_eq_ld, h1.read_unread, h2.read_unread, h3.read_unread,
    h4.read_unread, h5.read_unread, h9.read_unread, View.ld_unit_zero (S := S1024x64) zeros2, View.ld_unit_zero (S := S1024x1) zeros2,
    View.ld_unit_zero (S := S1x1x1024) zeros3, View.ld_unit_zero (S := S768x256) zeros2, View.ld_unit_zero (S := S1x1) zeros2]
  rfl

theorem later_next (hc : ¬cond1_0 i) : out1_B_6 c i a1 h1 a2 h2 a3 h3 a4 h4 a5 h5 a6 h6 a7 h7 a8 h8 a9 h9 hc r r2 c2 C G l
    = nextBlock r r2 c2 C G := by
  unfold out1_B_6
  rw [View.read_writes_eq_canon _ _ _ (cover1_B_6 c i a1 h1 a2 h2 a3 h3 a4 h4 a5 h5 a6 h6 a7 h7 a8 h8 a9 h9 hc r r2 c2 C G l)]
  unfold kernelRun1_B
  dsimp only
  sl_unfold_words
  rw [View.canon_cons_unit_zero (S := S1024x64) zeros2]
  simp only [View.readCov_unit_zero (S := S1x1) _ zeros2, View.readAt_eq_ld, h1.read_unread, h2.read_unread, h3.read_unread,
    h4.read_unread, h5.read_unread, h9.read_unread, View.ld_unit_zero (S := S1024x64) zeros2, View.ld_unit_zero (S := S1024x1) zeros2,
    View.ld_unit_zero (S := S1x1x1024) zeros3, View.ld_unit_zero (S := S768x256) zeros2, View.ld_unit_zero (S := S1x1) zeros2]
  rfl

theorem later_idx (hc : ¬cond1_0 i) : out1_B_7 c i a1 h1 a2 h2 a3 h3 a4 h4 a5 h5 a6 h6 a7 h7 a8 h8 a9 h9 hc r r2 c2 C G l
    = idxBlock r r2 c2 C := by
  unfold out1_B_7
  rw [View.read_writes_eq_canon _ _ _ (cover1_B_7 c i a1 h1 a2 h2 a3 h3 a4 h4 a5 h5 a6 h6 a7 h7 a8 h8 a9 h9 hc r r2 c2 C G l)]
  unfold kernelRun1_B
  dsimp only
  sl_unfold_words
  rw [View.canon_cons_unit_zero (S := S1x1x1024) zeros3]
  simp only [View.readCov_unit_zero (S := S1x1) _ zeros2, View.readAt_eq_ld, h1.read_unread, h2.read_unread, h3.read_unread,
    h4.read_unread, h5.read_unread, h9.read_unread, View.ld_unit_zero (S := S1024x64) zeros2, View.ld_unit_zero (S := S1024x1) zeros2,
    View.ld_unit_zero (S := S1x1x1024) zeros3, View.ld_unit_zero (S := S768x256) zeros2, View.ld_unit_zero (S := S1x1) zeros2]
  rfl

theorem later_loss (hc : ¬cond1_0 i) : out1_B_8 c i a1 h1 a2 h2 a3 h3 a4 h4 a5 h5 a6 h6 a7 h7 a8 h8 a9 h9 hc r r2 c2 C G l
    = fun _ => Scalar.addf (l (ix2 0 0)) (errBlock r r2 c2 C G) := by
  unfold out1_B_8
  rw [View.read_writes_eq_canon _ _ _ (cover1_B_8 c i a1 h1 a2 h2 a3 h3 a4 h4 a5 h5 a6 h6 a7 h7 a8 h8 a9 h9 hc r r2 c2 C G l)]
  unfold kernelRun1_B
  dsimp only
  sl_unfold_words
  rw [View.canon_cons_unit_zero (S := S1x1) zeros2]
  simp only [View.readCov_unit_zero (S := S1x1) _ zeros2, View.readAt_eq_ld, h1.read_unread, h2.read_unread, h3.read_unread,
    h4.read_unread, h5.read_unread, h9.read_unread, View.ld_unit_zero (S := S1024x64) zeros2, View.ld_unit_zero (S := S1024x1) zeros2,
    View.ld_unit_zero (S := S1x1x1024) zeros3, View.ld_unit_zero (S := S768x256) zeros2, View.ld_unit_zero (S := S1x1) zeros2]
  exact funext fun _ => congrArg (fun v => Scalar.addf v (errBlock r r2 c2 C G))
    ((congrFun (View.ld_unit_zero (S := S1x1) zeros2 inb_S1x1_S1x1_0_0 l) _).trans (congrArg l (only1 _ _)))

/-- The four outputs of the first point. -/
theorem first_out (hc : cond1_0 i) : (out1_A_5 c i a1 h1 a2 h2 a3 h3 a4 h4 a5 h5 a6 h6 a7 h7 a8 h8 a9 h9 hc r r2 c2 C G,
      out1_A_6 c i a1 h1 a2 h2 a3 h3 a4 h4 a5 h5 a6 h6 a7 h7 a8 h8 a9 h9 hc r r2 c2 C G,
      out1_A_7 c i a1 h1 a2 h2 a3 h3 a4 h4 a5 h5 a6 h6 a7 h7 a8 h8 a9 h9 hc r r2 c2 C G,
      out1_A_8 c i a1 h1 a2 h2 a3 h3 a4 h4 a5 h5 a6 h6 a7 h7 a8 h8 a9 h9 hc r r2 c2 C G)
    = stored r r2 c2 C G (Scalar.ofBits .f32 0x00000000#32) := by
  rw [first_rows, first_next, first_idx, first_loss, stored]

/-- The four outputs of a later point. -/
theorem later_out (hc : ¬cond1_0 i) : (out1_B_5 c i a1 h1 a2 h2 a3 h3 a4 h4 a5 h5 a6 h6 a7 h7 a8 h8 a9 h9 hc r r2 c2 C G l,
      out1_B_6 c i a1 h1 a2 h2 a3 h3 a4 h4 a5 h5 a6 h6 a7 h7 a8 h8 a9 h9 hc r r2 c2 C G l,
      out1_B_7 c i a1 h1 a2 h2 a3 h3 a4 h4 a5 h5 a6 h6 a7 h7 a8 h8 a9 h9 hc r r2 c2 C G l,
      out1_B_8 c i a1 h1 a2 h2 a3 h3 a4 h4 a5 h5 a6 h6 a7 h7 a8 h8 a9 h9 hc r r2 c2 C G l)
    = stored r r2 c2 C G (l (ix2 0 0)) := by
  rw [later_rows, later_next, later_idx, later_loss, stored]

end Runs

end Cert.Proof.KI

end
-- ==== Proof.KI.Geometry.lean ====
/-
  Where a stage's blocks lie in their arrays.

  Point `t` of a stage's grid works on rows `1024 t` to `1024 t + 1023` of the arrays that are cut in blocks; the codebook
  arrays and the loss are one block each. The four stages cut their arrays alike, so the facts are stated once, for the
  windows of the first stage.
-/
module

public import proofs.«01_k».proof.Proof.Gen.KernelIdeal.Frame.Region1
public import Idealize.ShloMosaic.Lib.Pipeline.Value
public import Idealize.ShloMosaic.Lib.Pointwise

@[expose] public section

noncomputable section

namespace Cert.Proof.KI

open Cert.KernelIdeal Cert.KernelIdeal.Gen
open Idealize.ShloMosaic Idealize.ShloMosaic.TcCoe Idealize.SL.Sem

variable {F : FTy → Type} [FloatOps F]

/-- A grid has 18 points. -/
theorem lt18 (t : Fin grid1.N) : t.val < 18 := lt_of_lt_of_eq t.isLt N_1

/-- The row of the whole array that is row `i` of block `n`. -/
def at18 (n : Fin 18) (i : Fin 1024) : Fin 18432 := ⟨1024 * n.val + i.val, by omega⟩

/-- The rows of block `n`. -/
def rowBlock {α : Type} {m : ℕ} (A : (⟨2, ![18432, m]⟩ : Shape).Idx → α) (n : Fin 18) : (⟨2, ![1024, m]⟩ : Shape).Idx → α :=
  fun j => A (ix2 (at18 n (j 0)) (j 1))

/-- A point as a block's number. -/
def pt (t : Fin grid1.N) : Fin 18 := ⟨t.val, lt18 t⟩

theorem index0 (t : Fin grid1.N) : win1_0.index t 0 = t.val ∧ win1_0.index t 1 = 0 := by
  revert t; decide +kernel

theorem index1 (t : Fin grid1.N) : win1_1.index t 0 = t.val ∧ win1_1.index t 1 = 0 := by
  revert t; decide +kernel

theorem index7 (t : Fin grid1.N) : win1_7.index t 0 = t.val ∧ win1_7.index t 1 = 0 ∧ win1_7.index t 2 = 0 := by
  revert t; decide +kernel

theorem index2 (t : Fin grid1.N) : win1_2.index t 0 = 0 ∧ win1_2.index t 1 = 0 ∧ win1_2.index t 2 = 0 := by
  revert t; decide +kernel

theorem index3 (t : Fin grid1.N) : win1_3.index t 0 = 0 ∧ win1_3.index t 1 = 0 := by
  revert t; decide +kernel

theorem index4 (t : Fin grid1.N) : win1_4.index t 0 = 0 ∧ win1_4.index t 1 = 0 := by
  revert t; decide +kernel

theorem index8 (t : Fin grid1.N) : win1_8.index t 0 = 0 ∧ win1_8.index t 1 = 0 := by
  revert t; decide +kernel

/-- Entry `(i, x)` of point `t`'s block of rows lies in row `1024 t + i` of the array. -/
theorem emb_rows (t : Fin grid1.N) (j : S1024x64.Idx) : (win1_0.rect t).emb j = (ix2 (at18 (pt t) (j 0)) (j 1) : S18432x64.Idx) := by
  funext a
  apply Fin.ext
  match a with
  | ⟨0, _⟩ => show win1_0.index t 0 * 1024 + 1 * (j 0).val = 1024 * t.val + (j 0).val; rw [(index0 t).1]; omega
  | ⟨1, _⟩ => show win1_0.index t 1 * 64 + 1 * (j 1).val = (j 1).val; rw [(index0 t).2]; omega

/-- The same for the block of row norms. -/
theorem emb_norms (t : Fin grid1.N) (j : S1024x1.Idx) : (win1_1.rect t).emb j = (ix2 (at18 (pt t) (j 0)) (j 1) : S18432x1.Idx) := by
  funext a
  apply Fin.ext
  match a with
  | ⟨0, _⟩ => show win1_1.index t 0 * 1024 + 1 * (j 0).val = 1024 * t.val + (j 0).val; rw [(index1 t).1]; omega
  | ⟨1, _⟩ => show win1_1.index t 1 * 1 + 1 * (j 1).val = (j 1).val; rw [(index1 t).2]; omega

/-- Point `t`'s block of row numbers is block `t` of the array. -/
theorem emb_idx (t : Fin grid1.N) (j : S1x1x1024.Idx) : (win1_7.rect t).emb j = (ix3 (pt t) (j 1) (j 2) : S18x1x1024.Idx) := by
  funext a
  apply Fin.ext
  match a with
  | ⟨0, _⟩ => show win1_7.index t 0 * 1 + 1 * (j 0).val = t.val; rw [(index7 t).1]; have : (j 0).val < 1 := (j 0).isLt; omega
  | ⟨1, _⟩ => show win1_7.index t 1 * 1 + 1 * (j 1).val = (j 1).val; rw [(index7 t).2.1]; omega
  | ⟨2, _⟩ => show win1_7.index t 2 * 1024 + 1 * (j 2).val = (j 2).val; rw [(index7 t).2.2]; omega

/-- The block of codebook norms is the whole array. -/
theorem emb_bookNorms (t : Fin grid1.N) (j : S1x1x1024.Idx) : (win1_2.rect t).emb j = j := by
  funext a
  apply Fin.ext
  match a with
  | ⟨0, _⟩ => show win1_2.index t 0 * 1 + 1 * (j 0).val = (j 0).val; rw [(index2 t).1]; omega
  | ⟨1, _⟩ => show win1_2.index t 1 * 1 + 1 * (j 1).val = (j 1).val; rw [(index2 t).2.1]; omega
  | ⟨2, _⟩ => show win1_2.index t 2 * 1024 + 1 * (j 2).val = (j 2).val; rw [(index2 t).2.2]; omega

/-- The codebook's block is the whole array. -/
theorem emb_book (t : Fin grid1.N) (j : S1024x64.Idx) : (win1_3.rect t).emb j = j := by
  funext a
  apply Fin.ext
  match a with
  | ⟨0, _⟩ => show win1_3.index t 0 * 1024 + 1 * (j 0).val = (j 0).val; rw [(index3 t).1]; omega
  | ⟨1, _⟩ => show win1_3.index t 1 * 64 + 1 * (j 1).val = (j 1).val; rw [(index3 t).2]; omega

/-- The grouped codebook's block is the whole array. -/
theorem emb_grouped (t : Fin grid1.N) (j : S768x256.Idx) : (win1_4.rect t).emb j = j := by
  funext a
  apply Fin.ext
  match a with
  | ⟨0, _⟩ => show win1_4.index t 0 * 768 + 1 * (j 0).val = (j 0).val; rw [(index4 t).1]; omega
  | ⟨1, _⟩ => show win1_4.index t 1 * 256 + 1 * (j 1).val = (j 1).val; rw [(index4 t).2]; omega

/-- The loss's block is the whole array. -/
theorem emb_loss (t : Fin grid1.N) (j : S1x1.Idx) : (win1_8.rect t).emb j = j := by
  funext a
  apply Fin.ext
  match a with
  | ⟨0, _⟩ => show win1_8.index t 0 * 1 + 1 * (j 0).val = (j 0).val; rw [(index8 t).1]; omega
  | ⟨1, _⟩ => show win1_8.index t 1 * 1 + 1 * (j 1).val = (j 1).val; rw [(index8 t).2]; omega

/-- The grid's point with a given number. -/
def point (n : ℕ) (h : n < 18) : Fin grid1.N := ⟨n, lt_of_lt_of_eq h N_1.symm⟩

/-- Every entry of an array cut by rows lies in some point's block. -/
theorem cover_rows (i : S18432x64.Idx) : ∃ t : Fin grid1.N, i ∈ (win1_0.rect t).set := by
  have h0 : (i 0 : ℕ) < 18432 := (i 0).isLt
  have h1 : (i 1 : ℕ) < 64 := (i 1).isLt
  have hq : (i 0 : ℕ) / 1024 < 18 := by omega
  refine ⟨point ((i 0 : ℕ) / 1024) hq, ?_⟩
  rw [Rect.mem_set_unit]
  intro a
  match a with
  | ⟨0, _⟩ =>
    show win1_0.index _ 0 * 1024 ≤ (i 0 : ℕ) ∧ (i 0 : ℕ) < win1_0.index _ 0 * 1024 + 1024
    rw [(index0 _).1]; show (i 0 : ℕ) / 1024 * 1024 ≤ _ ∧ _ < (i 0 : ℕ) / 1024 * 1024 + 1024; omega
  | ⟨1, _⟩ =>
    show win1_0.index _ 1 * 64 ≤ (i 1 : ℕ) ∧ (i 1 : ℕ) < win1_0.index _ 1 * 64 + 64
    rw [(index0 _).2]; omega

theorem cover_idx (i : S18x1x1024.Idx) : ∃ t : Fin grid1.N, i ∈ (win1_7.rect t).set := by
  have h0 : (i 0 : ℕ) < 18 := (i 0).isLt
  have h1 : (i 1 : ℕ) < 1 := (i 1).isLt
  have h2 : (i 2 : ℕ) < 1024 := (i 2).isLt
  refine ⟨point (i 0 : ℕ) h0, ?_⟩
  rw [Rect.mem_set_unit]
  intro a
  match a with
  | ⟨0, _⟩ =>
    show win1_7.index _ 0 * 1 ≤ (i 0 : ℕ) ∧ (i 0 : ℕ) < win1_7.index _ 0 * 1 + 1
    rw [(index7 _).1]; show (i 0 : ℕ) * 1 ≤ _ ∧ _ < (i 0 : ℕ) * 1 + 1; omega
  | ⟨1, _⟩ =>
    show win1_7.index _ 1 * 1 ≤ (i 1 : ℕ) ∧ (i 1 : ℕ) < win1_7.index _ 1 * 1 + 1
    rw [(index7 _).2.1]; omega
  | ⟨2, _⟩ =>
    show win1_7.index _ 2 * 1024 ≤ (i 2 : ℕ) ∧ (i 2 : ℕ) < win1_7.index _ 2 * 1024 + 1024
    rw [(index7 _).2.2]; omega

theorem cover_loss (i : S1x1.Idx) (t : Fin grid1.N) : i ∈ (win1_8.rect t).set := by
  have h0 : (i 0 : ℕ) < 1 := (i 0).isLt
  have h1 : (i 1 : ℕ) < 1 := (i 1).isLt
  rw [Rect.mem_set_unit]
  intro a
  match a with
  | ⟨0, _⟩ =>
    show win1_8.index _ 0 * 1 ≤ (i 0 : ℕ) ∧ (i 0 : ℕ) < win1_8.index _ 0 * 1 + 1
    rw [(index8 _).1]; omega
  | ⟨1, _⟩ =>
    show win1_8.index _ 1 * 1 ≤ (i 1 : ℕ) ∧ (i 1 : ℕ) < win1_8.index _ 1 * 1 + 1
    rw [(index8 _).2]; omega

end Cert.Proof.KI

end
-- ==== Proof.KI.Stage.lean ====
/-
  What a stage leaves in its four result arrays, in terms of the arrays it is given.

  The codebook row of every row of the residual, the residual less it, its number, and the summed squared error. The sum is
  taken block by block; it is the sum over all rows.
-/
module

public import proofs.«01_k».proof.Proof.KI.Body
public import proofs.«01_k».proof.Proof.KI.Geometry

@[expose] public section

noncomputable section

namespace Cert.Proof.KI

open Cert.KernelIdeal Cert.KernelIdeal.Gen Cert.Proof.Math
open Idealize.ShloMosaic Idealize.ShloMosaic.TcCoe Idealize.SL.Sem

/-- What the arrays given to a stage hold: the squared norms of the residual's rows and of the codebook's rows, and the
    codebook grouped as `Layout` says. -/
structure StageIn (r : FVec Ideal S18432x64 .f32) (r2 : FVec Ideal S18432x1 .f32) (c2 : FVec Ideal S1x1x1024 .f32)
    (C : FVec Ideal S1024x64 .f32) (G : FVec Ideal S768x256 .f32) : Prop where
  row : ∀ i : Fin 18432, r2 (ix2 i 0) = ∑ x, mat r i x * mat r i x
  book : ∀ k : Fin 1024, c2 (ix3 0 0 k) = ∑ x, mat C k x * mat C k x
  layout : Layout (mat C) (mat G)

/-- Each row's codebook row. -/
def keptRows (r : FVec Ideal S18432x64 .f32) (C : FVec Ideal S1024x64 .f32) : FVec Ideal S18432x64 .f32 :=
  fun y => mat C (pick (mat C) (mat r (y 0))) (y 1)

/-- Each row less its codebook row. -/
def nextRows (r : FVec Ideal S18432x64 .f32) (C : FVec Ideal S1024x64 .f32) : FVec Ideal S18432x64 .f32 :=
  fun y => mat r (y 0) (y 1) - mat C (pick (mat C) (mat r (y 0))) (y 1)

/-- The number of each row's codebook row, in blocks. -/
def keptIdx (r : FVec Ideal S18432x64 .f32) (C : FVec Ideal S1024x64 .f32) : IVec S18x1x1024 32 :=
  fun y => BitVec.ofNat 32 (pick (mat C) (mat r (at18 (y 0) (y 2)))).val

theorem keptIdx_apply (r : FVec Ideal S18432x64 .f32) (C : FVec Ideal S1024x64 .f32) (n : Fin 18) (a : Fin 1) (k : Fin 1024) :
    keptIdx r C (ix3 n a k) = BitVec.ofNat 32 (pick (mat C) (mat r (at18 n k))).val := by
  rfl

/-- The summed squared error. -/
def keptLoss (r : FVec Ideal S18432x64 .f32) (C : FVec Ideal S1024x64 .f32) : FVec Ideal S1x1 .f32 :=
  fun _ => ∑ i : Fin 18432, rowErr (mat C) (mat r i)

/-- A stage's four result arrays. -/
structure StageOut (r : FVec Ideal S18432x64 .f32) (C : FVec Ideal S1024x64 .f32) (zq rn : FVec Ideal S18432x64 .f32)
    (idx : IVec S18x1x1024 32) (loss : FVec Ideal S1x1 .f32) : Prop where
  rows : zq = keptRows r C
  next : rn = nextRows r C
  idx : idx = keptIdx r C
  loss : loss = keptLoss r C

/-- A block's summed squared error. -/
def blockErr (r : FVec Ideal S18432x64 .f32) (C : FVec Ideal S1024x64 .f32) (n : Fin 18) : EReal :=
  ∑ i : Fin 1024, rowErr (mat C) (mat r (at18 n i))

/-- The sums over the blocks add up to the sum over the rows. -/
theorem sum_blocks (f : Fin 18432 → EReal) : ∑ n : Fin 18, ∑ i : Fin 1024, f (at18 n i) = ∑ i, f i := by
  rw [← Fintype.sum_prod_type']
  refine Fintype.sum_equiv ((Equiv.refl _).trans (finProdFinEquiv (m := 18) (n := 1024))) _ _ fun x => ?_
  refine congrArg f (Fin.ext ?_)
  show 1024 * x.1.val + x.2.val = x.2.val + 1024 * x.1.val
  omega

section Steps
variable {F : FTy → Type} [FloatOps F]

/-- The outputs after each point, by steps: the first point's loss starts from zero, a later point's from what the point
    before left. -/
structure Steps (o : (n : ℕ) → n < grid1.N → Vec F S1024x64 .f32 × Vec F S1024x64 .f32 × Vec F S1x1x1024 .i32 × Vec F S1x1 .f32)
    (r : Vec F S18432x64 .f32) (r2 : Vec F S18432x1 .f32) (c2 : Vec F S1x1x1024 .f32) (C : Vec F S1024x64 .f32)
    (G : Vec F S768x256 .f32) : Prop where
  first : ∀ h, o 0 h = stored (rowBlock r (pt ⟨0, h⟩)) (rowBlock r2 (pt ⟨0, h⟩)) c2 C G (Scalar.ofBits .f32 0x00000000#32)
  later : ∀ n h, o (n + 1) h = stored (rowBlock r (pt ⟨n + 1, h⟩)) (rowBlock r2 (pt ⟨n + 1, h⟩)) c2 C G
    ((o n (Nat.lt_of_succ_lt h)).2.2.2 (ix2 0 0))

end Steps

variable {r : FVec Ideal S18432x64 .f32} {r2 : FVec Ideal S18432x1 .f32} {c2 : FVec Ideal S1x1x1024 .f32}
  {C : FVec Ideal S1024x64 .f32} {G : FVec Ideal S768x256 .f32}

theorem StageIn.norms (h : StageIn r r2 c2 C G) (n : Fin 18) : Norms (rowBlock r n) (rowBlock r2 n) c2 C :=
  ⟨fun i => h.row (at18 n i), h.book⟩

theorem zero_bits : Ideal.ofBits .f32 (0x00000000#32) = 0 := by
  simp [Ideal.ofBits, Ideal.ieee]

/-- What a point stores, from the arrays given. -/
theorem stored_eq (h : StageIn r r2 c2 C G) (n : Fin 18) (l : EReal) :
    stored (F := Ideal) (rowBlock r n) (rowBlock r2 n) c2 C G l
      = (rowBlock (keptRows r C) n, rowBlock (nextRows r C) n, fun j => keptIdx r C (ix3 n (j 1) (j 2)),
          fun _ => l + blockErr r C n) := by
  unfold stored
  refine Prod.ext ?_ (Prod.ext ?_ (Prod.ext ?_ ?_))
  · funext j
    obtain ⟨a, b, rfl⟩ : ∃ a b, j = ix2 a b := ⟨j 0, j 1, Shape.idx_ext₂ rfl rfl⟩
    exact rowsBlock_apply (h.norms n) h.layout a b
  · funext j
    obtain ⟨a, b, rfl⟩ : ∃ a b, j = ix2 a b := ⟨j 0, j 1, Shape.idx_ext₂ rfl rfl⟩
    exact nextBlock_apply (h.norms n) h.layout a b
  · funext j
    obtain ⟨k, rfl⟩ : ∃ k : Fin 1024, j = ix3 0 0 k := ⟨j 2, funext fun a => by
      match a with
      | ⟨0, _⟩ => exact Fin.ext (by have : (j 0).val < 1 := (j 0).isLt; show (j 0).val = 0; omega)
      | ⟨1, _⟩ => exact Fin.ext (by have : (j 1).val < 1 := (j 1).isLt; show (j 1).val = 0; omega)
      | ⟨2, _⟩ => rfl⟩
    have e : mat (rowBlock r n) k = mat r (at18 n k) := rfl
    have e' := idxBlock_apply (h.norms n) k
    rw [e] at e'
    refine Eq.trans (b := BitVec.ofNat 32 (pick (mat C) (mat r (at18 n k))).val) ?_ ?_
    · dsimp only
      exact e'
    · dsimp only
      exact (keptIdx_apply r C n 0 k).symm
  · funext _
    have e : errBlock (F := Ideal) (rowBlock r n) (rowBlock r2 n) c2 C G = blockErr r C n := errBlock_eq (h.norms n) h.layout
    exact congrArg (fun v : EReal => l + v) e

variable {o : (n : ℕ) → n < grid1.N →
  Vec Ideal S1024x64 .f32 × Vec Ideal S1024x64 .f32 × Vec Ideal S1x1x1024 .i32 × Vec Ideal S1x1 .f32}

/-- Whatever the point, there is a loss it continues from. -/
theorem Steps.exists (ho : Steps o r r2 c2 C G) (t : Fin grid1.N) : ∃ l, o t.val t.isLt
    = stored (F := Ideal) (rowBlock r (pt t)) (rowBlock r2 (pt t)) c2 C G l := by
  obtain ⟨n, h⟩ := t
  cases n with
  | zero => exact ⟨_, ho.first h⟩
  | succ n => exact ⟨_, ho.later n h⟩

theorem Steps.rows (h : StageIn r r2 c2 C G) (ho : Steps o r r2 c2 C G) (t : Fin grid1.N) :
    (o t.val t.isLt).1 = rowBlock (keptRows r C) (pt t) := by
  obtain ⟨l, e⟩ := ho.exists t
  rw [e, stored_eq h]

theorem Steps.next (h : StageIn r r2 c2 C G) (ho : Steps o r r2 c2 C G) (t : Fin grid1.N) :
    (o t.val t.isLt).2.1 = rowBlock (nextRows r C) (pt t) := by
  obtain ⟨l, e⟩ := ho.exists t
  rw [e, stored_eq h]

theorem Steps.idx (h : StageIn r r2 c2 C G) (ho : Steps o r r2 c2 C G) (t : Fin grid1.N) :
    (o t.val t.isLt).2.2.1 = fun j => keptIdx r C (ix3 (pt t) (j 1) (j 2)) := by
  obtain ⟨l, e⟩ := ho.exists t
  rw [e, stored_eq h]

/-- The loss after point `n` is the sum over the blocks so far. -/
theorem Steps.partial_loss (h : StageIn r r2 c2 C G) (ho : Steps o r r2 c2 C G) : ∀ (n : ℕ) (hn : n < grid1.N),
    (o n hn).2.2.2 = fun _ => ∑ s : Fin (n + 1), blockErr r C ⟨s.val, by have := lt18 ⟨n, hn⟩; have := s.isLt; simp at *; omega⟩
  | 0, hn => by
    rw [ho.first hn, stored_eq h]
    funext _
    show Ideal.ofBits .f32 0x00000000#32 + _ = _
    rw [zero_bits, zero_add, Fin.sum_univ_one]
    rfl
  | n + 1, hn => by
    rw [ho.later n hn, stored_eq h, ho.partial_loss h n _]
    funext _
    refine Eq.trans ?_ (Fin.sum_univ_castSucc _).symm
    rfl

/-- The last point leaves the sum over all rows. -/
theorem Steps.loss (h : StageIn r r2 c2 C G) (ho : Steps o r r2 c2 C G) (t : Fin grid1.N) (ht : t.val % 18 = 17) :
    (o t.val t.isLt).2.2.2 = keptLoss r C := by
  obtain ⟨n, hn⟩ := t
  obtain rfl : n = 17 := by have := lt18 ⟨n, hn⟩; simp at *; omega
  rw [ho.partial_loss h 17 hn]
  funext _
  exact sum_blocks fun i => rowErr (mat C) (mat r i)

end Cert.Proof.KI

end
-- ==== Proof.RI.Ops.lean ====
/-
  The reference program's operations, in the order in which it runs them.

  The reference launches no kernel: it is one straight line of array operations. They are listed here in six pieces — the
  opening (the flattened input, the first reconstruction), the four quantiser stages, and the close — with the bodies of the
  two functions it calls (`argmin` and `take`) as lists of their own.
-/
module

public import Idealize.ShloMosaic.Lib.StableHlo.RunHlo
public import proofs.«01_k».proof.Proof.Gen.ReferenceIdeal

@[expose] public section

noncomputable section

namespace Cert.Proof.RI

open Cert.ReferenceIdeal Cert.ReferenceIdeal.Gen
open Idealize.ShloMosaic Idealize.ShloMosaic.TcCoe Idealize.ShloMosaic.StableHlo Idealize.SL.Sem

variable {F : FTy → Type} [FloatOps F]

/-- The operations of one call of `argmin` on the array at `arg0`. -/
abbrev argminOps (arg0 : TRef sig ⟨S18432x1024, .f32⟩) (φ : fn_argmin.Bufs) : List (HloOp τ sig (Elt F)) :=
  [ TRef.nullary φ.v0 (iotaInDim S18432x1024 32 1),
    TRef.nullary φ.cst (constant S_ .f32 0x7F800000#32),
    TRef.nullary φ.c (constantI S_ 32 0#32),
    TRef.quaternary arg0 φ.v0 φ.cst φ.c φ.v1_0 (fun x y u v j => (Host.argReduce reducer_argmin_f32_i32 x y u v reducesTo_S18432x1024_S18432_d1 h_S_ j).1),
    TRef.quaternary arg0 φ.v0 φ.cst φ.c φ.v1_1 (fun x y u v j => (Host.argReduce reducer_argmin_f32_i32 x y u v reducesTo_S18432x1024_S18432_d1 h_S_ j).2) ]

/-- The operations of one call of `take`: the rows of `arg0` that `arg1` names. -/
abbrev takeOps (arg0 : TRef sig ⟨S1024x64, .f32⟩) (arg1 : TRef sig ⟨S18432, .i32⟩) (φ : fn_take.Bufs) : List (HloOp τ sig (Elt F)) :=
  [ TRef.nullary φ.c (constantI S_ 32 0#32),
    TRef.unary φ.c φ.v0 (broadcastInDim S18432 ![] bcast_S_S18432),
    TRef.binary arg1 φ.v0 φ.v1 (cmpi .slt),
    TRef.nullary φ.c_0 (constantI S_ 32 1024#32),
    TRef.unary φ.c_0 φ.v2 (broadcastInDim S18432 ![] bcast_S_S18432),
    TRef.binary arg1 φ.v2 φ.v3 addi,
    TRef.ternary φ.v1 φ.v3 arg1 φ.call0.v0 select,
    TRef.unary φ.call0.v0 φ.v5 (broadcastInDim S18432x1 ![0] bcast_S18432_S18432x1_0),
    TRef.nullary φ.c_1 (constantI S1 32 1023#32),
    TRef.nullary φ.c_2 (constantI S_ 32 0#32),
    TRef.unary φ.c_2 φ.v6 (broadcastInDim S18432x1 ![] bcast_S_S18432x1),
    TRef.binary φ.v5 φ.v6 φ.v7 (cmpi .sge),
    TRef.unary φ.c_1 φ.v8 (broadcastInDim S1x1 ![1] bcast_S1_S1x1_1),
    TRef.unary φ.v8 φ.v9 (broadcastInDim S18432x1 ![0, 1] bcast_S1x1_S18432x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S18432x1_S18432_d1 h_S_),
    TRef.binary arg0 φ.v5 φ.v13 (fun x i => Host.gather gather_S1024x64_S18432x1_S18432x64_1_0_n_n_0_1_164 x i),
    TRef.unary φ.v12 φ.v14 (broadcastInDim S18432x64 ![0] bcast_S18432_S18432x64_0),
    TRef.nullary φ.cst (constant S_ .f32 0x7FC00000#32),
    TRef.unary φ.cst φ.v15 (broadcastInDim S18432x64 ![] bcast_S_S18432x64),
    TRef.ternary φ.v14 φ.v13 φ.v15 φ.v16 select ]

/-- The opening: the input as rows, and the reconstruction, still zero. -/
abbrev openOps : List (HloOp τ sig (Elt F)) :=
  [ reshape main_arg0 main_v0 (rfl : (.f32 : EltTy) = .f32) shapeCasts_S32x576x64_S18432x64,
    nullary main_cst (constant S_ .f32 0x00000000#32),
    unary main_cst main_v1 (broadcastInDim S18432x64 ![] bcast_S_S18432x64 : (⟨S_, .f32⟩ : BufTy).Contents (Elt F) → (⟨S18432x64, .f32⟩ : BufTy).Contents (Elt F)) ]

/-- Stage 0: distances, nearest rows, loss, reconstruction, residual. -/
abbrev stageOps0 : List (HloOp τ sig (Elt F)) :=
  [ unary main_arg1 main_v2 ((extractStridedSlice S1x1024x64 ![0, 0, 0] · slices_S4x1024x64_S1x1024x64_0_0_0) : (⟨S4x1024x64, .f32⟩ : BufTy).Contents (Elt F) → (⟨S1x1024x64, .f32⟩ : BufTy).Contents (Elt F)),
    reshape main_v2 main_v3 (rfl : (.f32 : EltTy) = .f32) shapeCasts_S1x1024x64_S1024x64,
    binary main_v0 main_v0 main_v4 (mulf : (⟨S18432x64, .f32⟩ : BufTy).Contents (Elt F) → (⟨S18432x64, .f32⟩ : BufTy).Contents (Elt F) → (⟨S18432x64, .f32⟩ : BufTy).Contents (Elt F)),
    nullary main_cst_0 (constant S_ .f32 0x00000000#32),
    binary main_v4 main_cst_0 main_v5 ((fun x v => Host.reduceAdd x v reducesTo_S18432x64_S18432_d1 h_S_) : (⟨S18432x64, .f32⟩ : BufTy).Contents (Elt F) → (⟨S_, .f32⟩ : BufTy).Contents (Elt F) → (⟨S18432, .f32⟩ : BufTy).Contents (Elt F)),
    unary main_v5 main_v6 (broadcastInDim S18432x1 ![0] bcast_S18432_S18432x1_0 : (⟨S18432, .f32⟩ : BufTy).Contents (Elt F) → (⟨S18432x1, .f32⟩ : BufTy).Contents (Elt F)),
    unary main_v3 main_v7 ((transpose S64x1024 [1, 0] · transposes_S1024x64_S64x1024_1_0) : (⟨S1024x64, .f32⟩ : BufTy).Contents (Elt F) → (⟨S64x1024, .f32⟩ : BufTy).Contents (Elt F)),
    binary main_v0 main_v7 main_v8 ((fun l r => Host.dotGeneral dot_S18432x64_S64x1024_S18432x1024_1_0_0_1_n_n none l r) : (⟨S18432x64, .f32⟩ : BufTy).Contents (Elt F) → (⟨S64x1024, .f32⟩ : BufTy).Contents (Elt F) → (⟨S18432x1024, .f32⟩ : BufTy).Contents (Elt F)),
    nullary main_cst_1 (constant S_ .f32 0x40000000#32),
    unary main_cst_1 main_v9 (broadcastInDim S18432x1024 ![] bcast_S_S18432x1024 : (⟨S_, .f32⟩ : BufTy).Contents (Elt F) → (⟨S18432x1024, .f32⟩ : BufTy).Contents (Elt F)),
    binary main_v9 main_v8 main_v10 (mulf : (⟨S18432x1024, .f32⟩ : BufTy).Contents (Elt F) → (⟨S18432x1024, .f32⟩ : BufTy).Contents (Elt F) → (⟨S18432x1024, .f32⟩ : BufTy).Contents (Elt F)),
    unary main_v6 main_v11 (broadcastInDim S18432x1024 ![0, 1] bcast_S18432x1_S18432x1024_0_1 : (⟨S18432x1, .f32⟩ : BufTy).Contents (Elt F) → (⟨S18432x1024, .f32⟩ : BufTy).Contents (Elt F)),
    binary main_v11 main_v10 main_v12 (subf : (⟨S18432x1024, .f32⟩ : BufTy).Contents (Elt F) → (⟨S18432x1024, .f32⟩ : BufTy).Contents (Elt F) → (⟨S18432x1024, .f32⟩ : BufTy).Contents (Elt F)),
    binary main_v3 main_v3 main_v13 (mulf : (⟨S1024x64, .f32⟩ : BufTy).Contents (Elt F) → (⟨S1024x64, .f32⟩ : BufTy).Contents (Elt F) → (⟨S1024x64, .f32⟩ : BufTy).Contents (Elt F)),
    nullary main_cst_2 (constant S_ .f32 0x00000000#32),
    binary main_v13 main_cst_2 main_v14 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v14 main_v15 (broadcastInDim S1x1024 ![1] bcast_S1024_S1x1024_1 : (⟨S1024, .f32⟩ : BufTy).Contents (Elt F) → (⟨S1x1024, .f32⟩ : BufTy).Contents (Elt F)),
    unary main_v15 main_v16 (broadcastInDim S18432x1024 ![0, 1] bcast_S1x1024_S18432x1024_0_1 : (⟨S1x1024, .f32⟩ : BufTy).Contents (Elt F) → (⟨S18432x1024, .f32⟩ : BufTy).Contents (Elt F)),
    binary main_v12 main_v16 main_v17 (addf : (⟨S18432x1024, .f32⟩ : BufTy).Contents (Elt F) → (⟨S18432x1024, .f32⟩ : BufTy).Contents (Elt F) → (⟨S18432x1024, .f32⟩ : BufTy).Contents (Elt F)) ]
  ++ argminOps (.of main_v17) main_call0
  ++ takeOps (.of main_v3) (.of main_v18) main_call1
  ++ [ binary main_v19 main_v0 main_v20 (subf : (⟨S18432x64, .f32⟩ : BufTy).Contents (Elt F) → (⟨S18432x64, .f32⟩ : BufTy).Contents (Elt F) → (⟨S18432x64, .f32⟩ : BufTy).Contents (Elt F)),
    binary main_v20 main_v20 main_v21 (mulf : (⟨S18432x64, .f32⟩ : BufTy).Contents (Elt F) → (⟨S18432x64, .f32⟩ : BufTy).Contents (Elt F) → (⟨S18432x64, .f32⟩ : BufTy).Contents (Elt F)),
    nullary main_cst_3 (constant S_ .f32 0x00000000#32),
    binary main_v21 main_cst_3 main_v22 ((fun x v => Host.reduceAdd x v reducesTo_S18432x64_S_d0_1 h_S_) : (⟨S18432x64, .f32⟩ : BufTy).Contents (Elt F) → (⟨S_, .f32⟩ : BufTy).Contents (Elt F) → (⟨S_, .f32⟩ : BufTy).Contents (Elt F)),
    nullary main_cst_4 (constant S_ .f32 0x49900000#32),
    binary main_v22 main_cst_4 main_v23 (Host.divf : (⟨S_, .f32⟩ : BufTy).Contents (Elt F) → (⟨S_, .f32⟩ : BufTy).Contents (Elt F) → (⟨S_, .f32⟩ : BufTy).Contents (Elt F)),
    nullary main_cst_5 (constant S_ .f32 0x3E800000#32),
    binary main_cst_5 main_v23 main_v24 (mulf : (⟨S_, .f32⟩ : BufTy).Contents (Elt F) → (⟨S_, .f32⟩ : BufTy).Contents (Elt F) → (⟨S_, .f32⟩ : BufTy).Contents (Elt F)),
    nullary main_cst_6 (constant S_ .f32 0x00000000#32),
    binary main_cst_6 main_v24 main_v25 (addf : (⟨S_, .f32⟩ : BufTy).Contents (Elt F) → (⟨S_, .f32⟩ : BufTy).Contents (Elt F) → (⟨S_, .f32⟩ : BufTy).Contents (Elt F)),
    binary main_v1 main_v19 main_v26 (addf : (⟨S18432x64, .f32⟩ : BufTy).Contents (Elt F) → (⟨S18432x64, .f32⟩ : BufTy).Contents (Elt F) → (⟨S18432x64, .f32⟩ : BufTy).Contents (Elt F)),
    binary main_v0 main_v19 main_v27 (subf : (⟨S18432x64, .f32⟩ : BufTy).Contents (Elt F) → (⟨S18432x64, .f32⟩ : BufTy).Contents (Elt F) → (⟨S18432x64, .f32⟩ : BufTy).Contents (Elt F)) ]

/-- Stage 1: distances, nearest rows, loss, reconstruction, residual. -/
abbrev stageOps1 : List (HloOp τ sig (Elt F)) :=
  [ unary main_arg1 main_v28 ((extractStridedSlice S1x1024x64 ![1, 0, 0] · slices_S4x1024x64_S1x1024x64_1_0_0) : (⟨S4x1024x64, .f32⟩ : BufTy).Contents (Elt F) → (⟨S1x1024x64, .f32⟩ : BufTy).Contents (Elt F)),
    reshape main_v28 main_v29 (rfl : (.f32 : EltTy) = .f32) shapeCasts_S1x1024x64_S1024x64,
    binary main_v27 main_v27 main_v30 (mulf : (⟨S18432x64, .f32⟩ : BufTy).Contents (Elt F) → (⟨S18432x64, .f32⟩ : BufTy).Contents (Elt F) → (⟨S18432x64, .f32⟩ : BufTy).Contents (Elt F)),
    nullary main_cst_7 (constant S_ .f32 0x00000000#32),
    binary main_v30 main_cst_7 main_v31 ((fun x v => Host.reduceAdd x v reducesTo_S18432x64_S18432_d1 h_S_) : (⟨S18432x64, .f32⟩ : BufTy).Contents (Elt F) → (⟨S_, .f32⟩ : BufTy).Contents (Elt F) → (⟨S18432, .f32⟩ : BufTy).Contents (Elt F)),
    unary main_v31 main_v32 (broadcastInDim S18432x1 ![0] bcast_S18432_S18432x1_0 : (⟨S18432, .f32⟩ : BufTy).Contents (Elt F) → (⟨S18432x1, .f32⟩ : BufTy).Contents (Elt F)),
    unary main_v29 main_v33 ((transpose S64x1024 [1, 0] · transposes_S1024x64_S64x1024_1_0) : (⟨S1024x64, .f32⟩ : BufTy).Contents (Elt F) → (⟨S64x1024, .f32⟩ : BufTy).Contents (Elt F)),
    binary main_v27 main_v33 main_v34 ((fun l r => Host.dotGeneral dot_S18432x64_S64x1024_S18432x1024_1_0_0_1_n_n none l r) : (⟨S18432x64, .f32⟩ : BufTy).Contents (Elt F) → (⟨S64x1024, .f32⟩ : BufTy).Contents (Elt F) → (⟨S18432x1024, .f32⟩ : BufTy).Contents (Elt F)),
    nullary main_cst_8 (constant S_ .f32 0x40000000#32),
    unary main_cst_8 main_v35 (broadcastInDim S18432x1024 ![] bcast_S_S18432x1024 : (⟨S_, .f32⟩ : BufTy).Contents (Elt F) → (⟨S18432x1024, .f32⟩ : BufTy).Contents (Elt F)),
    binary main_v35 main_v34 main_v36 (mulf : (⟨S18432x1024, .f32⟩ : BufTy).Contents (Elt F) → (⟨S18432x1024, .f32⟩ : BufTy).Contents (Elt F) → (⟨S18432x1024, .f32⟩ : BufTy).Contents (Elt F)),
    unary main_v32 main_v37 (broadcastInDim S18432x1024 ![0, 1] bcast_S18432x1_S18432x1024_0_1 : (⟨S18432x1, .f32⟩ : BufTy).Contents (Elt F) → (⟨S18432x1024, .f32⟩ : BufTy).Contents (Elt F)),
    binary main_v37 main_v36 main_v38 (subf : (⟨S18432x1024, .f32⟩ : BufTy).Contents (Elt F) → (⟨S18432x1024, .f32⟩ : BufTy).Contents (Elt F) → (⟨S18432x1024, .f32⟩ : BufTy).Contents (Elt F)),
    binary main_v29 main_v29 main_v39 (mulf : (⟨S1024x64, .f32⟩ : BufTy).Contents (Elt F) → (⟨S1024x64, .f32⟩ : BufTy).Contents (Elt F) → (⟨S1024x64, .f32⟩ : BufTy).Contents (Elt F)),
    nullary main_cst_9 (constant S_ .f32 0x00000000#32),
    binary main_v39 main_cst_9 main_v40 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v40 main_v41 (broadcastInDim S1x1024 ![1] bcast_S1024_S1x1024_1 : (⟨S1024, .f32⟩ : BufTy).Contents (Elt F) → (⟨S1x1024, .f32⟩ : BufTy).Contents (Elt F)),
    unary main_v41 main_v42 (broadcastInDim S18432x1024 ![0, 1] bcast_S1x1024_S18432x1024_0_1 : (⟨S1x1024, .f32⟩ : BufTy).Contents (Elt F) → (⟨S18432x1024, .f32⟩ : BufTy).Contents (Elt F)),
    binary main_v38 main_v42 main_v43 (addf : (⟨S18432x1024, .f32⟩ : BufTy).Contents (Elt F) → (⟨S18432x1024, .f32⟩ : BufTy).Contents (Elt F) → (⟨S18432x1024, .f32⟩ : BufTy).Contents (Elt F)) ]
  ++ argminOps (.of main_v43) main_call2
  ++ takeOps (.of main_v29) (.of main_v44) main_call3
  ++ [ binary main_v45 main_v27 main_v46 (subf : (⟨S18432x64, .f32⟩ : BufTy).Contents (Elt F) → (⟨S18432x64, .f32⟩ : BufTy).Contents (Elt F) → (⟨S18432x64, .f32⟩ : BufTy).Contents (Elt F)),
    binary main_v46 main_v46 main_v47 (mulf : (⟨S18432x64, .f32⟩ : BufTy).Contents (Elt F) → (⟨S18432x64, .f32⟩ : BufTy).Contents (Elt F) → (⟨S18432x64, .f32⟩ : BufTy).Contents (Elt F)),
    nullary main_cst_10 (constant S_ .f32 0x00000000#32),
    binary main_v47 main_cst_10 main_v48 ((fun x v => Host.reduceAdd x v reducesTo_S18432x64_S_d0_1 h_S_) : (⟨S18432x64, .f32⟩ : BufTy).Contents (Elt F) → (⟨S_, .f32⟩ : BufTy).Contents (Elt F) → (⟨S_, .f32⟩ : BufTy).Contents (Elt F)),
    nullary main_cst_11 (constant S_ .f32 0x49900000#32),
    binary main_v48 main_cst_11 main_v49 (Host.divf : (⟨S_, .f32⟩ : BufTy).Contents (Elt F) → (⟨S_, .f32⟩ : BufTy).Contents (Elt F) → (⟨S_, .f32⟩ : BufTy).Contents (Elt F)),
    nullary main_cst_12 (constant S_ .f32 0x3E800000#32),
    binary main_cst_12 main_v49 main_v50 (mulf : (⟨S_, .f32⟩ : BufTy).Contents (Elt F) → (⟨S_, .f32⟩ : BufTy).Contents (Elt F) → (⟨S_, .f32⟩ : BufTy).Contents (Elt F)),
    binary main_v25 main_v50 main_v51 (addf : (⟨S_, .f32⟩ : BufTy).Contents (Elt F) → (⟨S_, .f32⟩ : BufTy).Contents (Elt F) → (⟨S_, .f32⟩ : BufTy).Contents (Elt F)),
    binary main_v26 main_v45 main_v52 (addf : (⟨S18432x64, .f32⟩ : BufTy).Contents (Elt F) → (⟨S18432x64, .f32⟩ : BufTy).Contents (Elt F) → (⟨S18432x64, .f32⟩ : BufTy).Contents (Elt F)),
    binary main_v27 main_v45 main_v53 (subf : (⟨S18432x64, .f32⟩ : BufTy).Contents (Elt F) → (⟨S18432x64, .f32⟩ : BufTy).Contents (Elt F) → (⟨S18432x64, .f32⟩ : BufTy).Contents (Elt F)) ]

/-- Stage 2: distances, nearest rows, loss, reconstruction, residual. -/
abbrev stageOps2 : List (HloOp τ sig (Elt F)) :=
  [ unary main_arg1 main_v54 ((extractStridedSlice S1x1024x64 ![2, 0, 0] · slices_S4x1024x64_S1x1024x64_2_0_0) : (⟨S4x1024x64, .f32⟩ : BufTy).Contents (Elt F) → (⟨S1x1024x64, .f32⟩ : BufTy).Contents (Elt F)),
    reshape main_v54 main_v55 (rfl : (.f32 : EltTy) = .f32) shapeCasts_S1x1024x64_S1024x64,
    binary main_v53 main_v53 main_v56 (mulf : (⟨S18432x64, .f32⟩ : BufTy).Contents (Elt F) → (⟨S18432x64, .f32⟩ : BufTy).Contents (Elt F) → (⟨S18432x64, .f32⟩ : BufTy).Contents (Elt F)),
    nullary main_cst_13 (constant S_ .f32 0x00000000#32),
    binary main_v56 main_cst_13 main_v57 ((fun x v => Host.reduceAdd x v reducesTo_S18432x64_S18432_d1 h_S_) : (⟨S18432x64, .f32⟩ : BufTy).Contents (Elt F) → (⟨S_, .f32⟩ : BufTy).Contents (Elt F) → (⟨S18432, .f32⟩ : BufTy).Contents (Elt F)),
    unary main_v57 main_v58 (broadcastInDim S18432x1 ![0] bcast_S18432_S18432x1_0 : (⟨S18432, .f32⟩ : BufTy).Contents (Elt F) → (⟨S18432x1, .f32⟩ : BufTy).Contents (Elt F)),
    unary main_v55 main_v59 ((transpose S64x1024 [1, 0] · transposes_S1024x64_S64x1024_1_0) : (⟨S1024x64, .f32⟩ : BufTy).Contents (Elt F) → (⟨S64x1024, .f32⟩ : BufTy).Contents (Elt F)),
    binary main_v53 main_v59 main_v60 ((fun l r => Host.dotGeneral dot_S18432x64_S64x1024_S18432x1024_1_0_0_1_n_n none l r) : (⟨S18432x64, .f32⟩ : BufTy).Contents (Elt F) → (⟨S64x1024, .f32⟩ : BufTy).Contents (Elt F) → (⟨S18432x1024, .f32⟩ : BufTy).Contents (Elt F)),
    nullary main_cst_14 (constant S_ .f32 0x40000000#32),
    unary main_cst_14 main_v61 (broadcastInDim S18432x1024 ![] bcast_S_S18432x1024 : (⟨S_, .f32⟩ : BufTy).Contents (Elt F) → (⟨S18432x1024, .f32⟩ : BufTy).Contents (Elt F)),
    binary main_v61 main_v60 main_v62 (mulf : (⟨S18432x1024, .f32⟩ : BufTy).Contents (Elt F) → (⟨S18432x1024, .f32⟩ : BufTy).Contents (Elt F) → (⟨S18432x1024, .f32⟩ : BufTy).Contents (Elt F)),
    unary main_v58 main_v63 (broadcastInDim S18432x1024 ![0, 1] bcast_S18432x1_S18432x1024_0_1 : (⟨S18432x1, .f32⟩ : BufTy).Contents (Elt F) → (⟨S18432x1024, .f32⟩ : BufTy).Contents (Elt F)),
    binary main_v63 main_v62 main_v64 (subf : (⟨S18432x1024, .f32⟩ : BufTy).Contents (Elt F) → (⟨S18432x1024, .f32⟩ : BufTy).Contents (Elt F) → (⟨S18432x1024, .f32⟩ : BufTy).Contents (Elt F)),
    binary main_v55 main_v55 main_v65 (mulf : (⟨S1024x64, .f32⟩ : BufTy).Contents (Elt F) → (⟨S1024x64, .f32⟩ : BufTy).Contents (Elt F) → (⟨S1024x64, .f32⟩ : BufTy).Contents (Elt F)),
    nullary main_cst_15 (constant S_ .f32 0x00000000#32),
    binary main_v65 main_cst_15 main_v66 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v66 main_v67 (broadcastInDim S1x1024 ![1] bcast_S1024_S1x1024_1 : (⟨S1024, .f32⟩ : BufTy).Contents (Elt F) → (⟨S1x1024, .f32⟩ : BufTy).Contents (Elt F)),
    unary main_v67 main_v68 (broadcastInDim S18432x1024 ![0, 1] bcast_S1x1024_S18432x1024_0_1 : (⟨S1x1024, .f32⟩ : BufTy).Contents (Elt F) → (⟨S18432x1024, .f32⟩ : BufTy).Contents (Elt F)),
    binary main_v64 main_v68 main_v69 (addf : (⟨S18432x1024, .f32⟩ : BufTy).Contents (Elt F) → (⟨S18432x1024, .f32⟩ : BufTy).Contents (Elt F) → (⟨S18432x1024, .f32⟩ : BufTy).Contents (Elt F)) ]
  ++ argminOps (.of main_v69) main_call4
  ++ takeOps (.of main_v55) (.of main_v70) main_call5
  ++ [ binary main_v71 main_v53 main_v72 (subf : (⟨S18432x64, .f32⟩ : BufTy).Contents (Elt F) → (⟨S18432x64, .f32⟩ : BufTy).Contents (Elt F) → (⟨S18432x64, .f32⟩ : BufTy).Contents (Elt F)),
    binary main_v72 main_v72 main_v73 (mulf : (⟨S18432x64, .f32⟩ : BufTy).Contents (Elt F) → (⟨S18432x64, .f32⟩ : BufTy).Contents (Elt F) → (⟨S18432x64, .f32⟩ : BufTy).Contents (Elt F)),
    nullary main_cst_16 (constant S_ .f32 0x00000000#32),
    binary main_v73 main_cst_16 main_v74 ((fun x v => Host.reduceAdd x v reducesTo_S18432x64_S_d0_1 h_S_) : (⟨S18432x64, .f32⟩ : BufTy).Contents (Elt F) → (⟨S_, .f32⟩ : BufTy).Contents (Elt F) → (⟨S_, .f32⟩ : BufTy).Contents (Elt F)),
    nullary main_cst_17 (constant S_ .f32 0x49900000#32),
    binary main_v74 main_cst_17 main_v75 (Host.divf : (⟨S_, .f32⟩ : BufTy).Contents (Elt F) → (⟨S_, .f32⟩ : BufTy).Contents (Elt F) → (⟨S_, .f32⟩ : BufTy).Contents (Elt F)),
    nullary main_cst_18 (constant S_ .f32 0x3E800000#32),
    binary main_cst_18 main_v75 main_v76 (mulf : (⟨S_, .f32⟩ : BufTy).Contents (Elt F) → (⟨S_, .f32⟩ : BufTy).Contents (Elt F) → (⟨S_, .f32⟩ : BufTy).Contents (Elt F)),
    binary main_v51 main_v76 main_v77 (addf : (⟨S_, .f32⟩ : BufTy).Contents (Elt F) → (⟨S_, .f32⟩ : BufTy).Contents (Elt F) → (⟨S_, .f32⟩ : BufTy).Contents (Elt F)),
    binary main_v52 main_v71 main_v78 (addf : (⟨S18432x64, .f32⟩ : BufTy).Contents (Elt F) → (⟨S18432x64, .f32⟩ : BufTy).Contents (Elt F) → (⟨S18432x64, .f32⟩ : BufTy).Contents (Elt F)),
    binary main_v53 main_v71 main_v79 (subf : (⟨S18432x64, .f32⟩ : BufTy).Contents (Elt F) → (⟨S18432x64, .f32⟩ : BufTy).Contents (Elt F) → (⟨S18432x64, .f32⟩ : BufTy).Contents (Elt F)) ]

/-- Stage 3: distances, nearest rows, loss, reconstruction, residual. -/
abbrev stageOps3 : List (HloOp τ sig (Elt F)) :=
  [ unary main_arg1 main_v80 ((extractStridedSlice S1x1024x64 ![3, 0, 0] · slices_S4x1024x64_S1x1024x64_3_0_0) : (⟨S4x1024x64, .f32⟩ : BufTy).Contents (Elt F) → (⟨S1x1024x64, .f32⟩ : BufTy).Contents (Elt F)),
    reshape main_v80 main_v81 (rfl : (.f32 : EltTy) = .f32) shapeCasts_S1x1024x64_S1024x64,
    binary main_v79 main_v79 main_v82 (mulf : (⟨S18432x64, .f32⟩ : BufTy).Contents (Elt F) → (⟨S18432x64, .f32⟩ : BufTy).Contents (Elt F) → (⟨S18432x64, .f32⟩ : BufTy).Contents (Elt F)),
    nullary main_cst_19 (constant S_ .f32 0x00000000#32),
    binary main_v82 main_cst_19 main_v83 ((fun x v => Host.reduceAdd x v reducesTo_S18432x64_S18432_d1 h_S_) : (⟨S18432x64, .f32⟩ : BufTy).Contents (Elt F) → (⟨S_, .f32⟩ : BufTy).Contents (Elt F) → (⟨S18432, .f32⟩ : BufTy).Contents (Elt F)),
    unary main_v83 main_v84 (broadcastInDim S18432x1 ![0] bcast_S18432_S18432x1_0 : (⟨S18432, .f32⟩ : BufTy).Contents (Elt F) → (⟨S18432x1, .f32⟩ : BufTy).Contents (Elt F)),
    unary main_v81 main_v85 ((transpose S64x1024 [1, 0] · transposes_S1024x64_S64x1024_1_0) : (⟨S1024x64, .f32⟩ : BufTy).Contents (Elt F) → (⟨S64x1024, .f32⟩ : BufTy).Contents (Elt F)),
    binary main_v79 main_v85 main_v86 ((fun l r => Host.dotGeneral dot_S18432x64_S64x1024_S18432x1024_1_0_0_1_n_n none l r) : (⟨S18432x64, .f32⟩ : BufTy).Contents (Elt F) → (⟨S64x1024, .f32⟩ : BufTy).Contents (Elt F) → (⟨S18432x1024, .f32⟩ : BufTy).Contents (Elt F)),
    nullary main_cst_20 (constant S_ .f32 0x40000000#32),
    unary main_cst_20 main_v87 (broadcastInDim S18432x1024 ![] bcast_S_S18432x1024 : (⟨S_, .f32⟩ : BufTy).Contents (Elt F) → (⟨S18432x1024, .f32⟩ : BufTy).Contents (Elt F)),
    binary main_v87 main_v86 main_v88 (mulf : (⟨S18432x1024, .f32⟩ : BufTy).Contents (Elt F) → (⟨S18432x1024, .f32⟩ : BufTy).Contents (Elt F) → (⟨S18432x1024, .f32⟩ : BufTy).Contents (Elt F)),
    unary main_v84 main_v89 (broadcastInDim S18432x1024 ![0, 1] bcast_S18432x1_S18432x1024_0_1 : (⟨S18432x1, .f32⟩ : BufTy).Contents (Elt F) → (⟨S18432x1024, .f32⟩ : BufTy).Contents (Elt F)),
    binary main_v89 main_v88 main_v90 (subf : (⟨S18432x1024, .f32⟩ : BufTy).Contents (Elt F) → (⟨S18432x1024, .f32⟩ : BufTy).Contents (Elt F) → (⟨S18432x1024, .f32⟩ : BufTy).Contents (Elt F)),
    binary main_v81 main_v81 main_v91 (mulf : (⟨S1024x64, .f32⟩ : BufTy).Contents (Elt F) → (⟨S1024x64, .f32⟩ : BufTy).Contents (Elt F) → (⟨S1024x64, .f32⟩ : BufTy).Contents (Elt F)),
    nullary main_cst_21 (constant S_ .f32 0x00000000#32),
    binary main_v91 main_cst_21 main_v92 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v92 main_v93 (broadcastInDim S1x1024 ![1] bcast_S1024_S1x1024_1 : (⟨S1024, .f32⟩ : BufTy).Contents (Elt F) → (⟨S1x1024, .f32⟩ : BufTy).Contents (Elt F)),
    unary main_v93 main_v94 (broadcastInDim S18432x1024 ![0, 1] bcast_S1x1024_S18432x1024_0_1 : (⟨S1x1024, .f32⟩ : BufTy).Contents (Elt F) → (⟨S18432x1024, .f32⟩ : BufTy).Contents (Elt F)),
    binary main_v90 main_v94 main_v95 (addf : (⟨S18432x1024, .f32⟩ : BufTy).Contents (Elt F) → (⟨S18432x1024, .f32⟩ : BufTy).Contents (Elt F) → (⟨S18432x1024, .f32⟩ : BufTy).Contents (Elt F)) ]
  ++ argminOps (.of main_v95) main_call6
  ++ takeOps (.of main_v81) (.of main_v96) main_call7
  ++ [ binary main_v97 main_v79 main_v98 (subf : (⟨S18432x64, .f32⟩ : BufTy).Contents (Elt F) → (⟨S18432x64, .f32⟩ : BufTy).Contents (Elt F) → (⟨S18432x64, .f32⟩ : BufTy).Contents (Elt F)),
    binary main_v98 main_v98 main_v99 (mulf : (⟨S18432x64, .f32⟩ : BufTy).Contents (Elt F) → (⟨S18432x64, .f32⟩ : BufTy).Contents (Elt F) → (⟨S18432x64, .f32⟩ : BufTy).Contents (Elt F)),
    nullary main_cst_22 (constant S_ .f32 0x00000000#32),
    binary main_v99 main_cst_22 main_v100 ((fun x v => Host.reduceAdd x v reducesTo_S18432x64_S_d0_1 h_S_) : (⟨S18432x64, .f32⟩ : BufTy).Contents (Elt F) → (⟨S_, .f32⟩ : BufTy).Contents (Elt F) → (⟨S_, .f32⟩ : BufTy).Contents (Elt F)),
    nullary main_cst_23 (constant S_ .f32 0x49900000#32),
    binary main_v100 main_cst_23 main_v101 (Host.divf : (⟨S_, .f32⟩ : BufTy).Contents (Elt F) → (⟨S_, .f32⟩ : BufTy).Contents (Elt F) → (⟨S_, .f32⟩ : BufTy).Contents (Elt F)),
    nullary main_cst_24 (constant S_ .f32 0x3E800000#32),
    binary main_cst_24 main_v101 main_v102 (mulf : (⟨S_, .f32⟩ : BufTy).Contents (Elt F) → (⟨S_, .f32⟩ : BufTy).Contents (Elt F) → (⟨S_, .f32⟩ : BufTy).Contents (Elt F)),
    binary main_v77 main_v102 main_v103 (addf : (⟨S_, .f32⟩ : BufTy).Contents (Elt F) → (⟨S_, .f32⟩ : BufTy).Contents (Elt F) → (⟨S_, .f32⟩ : BufTy).Contents (Elt F)),
    binary main_v78 main_v97 main_v104 (addf : (⟨S18432x64, .f32⟩ : BufTy).Contents (Elt F) → (⟨S18432x64, .f32⟩ : BufTy).Contents (Elt F) → (⟨S18432x64, .f32⟩ : BufTy).Contents (Elt F)),
    binary main_v79 main_v97 main_v105 (subf : (⟨S18432x64, .f32⟩ : BufTy).Contents (Elt F) → (⟨S18432x64, .f32⟩ : BufTy).Contents (Elt F) → (⟨S18432x64, .f32⟩ : BufTy).Contents (Elt F)) ]

/-- The close: the straight-through output in the shape of the input. -/
abbrev closeOps : List (HloOp τ sig (Elt F)) :=
  [ binary main_v104 main_v0 main_v106 (subf : (⟨S18432x64, .f32⟩ : BufTy).Contents (Elt F) → (⟨S18432x64, .f32⟩ : BufTy).Contents (Elt F) → (⟨S18432x64, .f32⟩ : BufTy).Contents (Elt F)),
    binary main_v0 main_v106 main_v107 (addf : (⟨S18432x64, .f32⟩ : BufTy).Contents (Elt F) → (⟨S18432x64, .f32⟩ : BufTy).Contents (Elt F) → (⟨S18432x64, .f32⟩ : BufTy).Contents (Elt F)),
    reshape main_v107 main_v108 (rfl : (.f32 : EltTy) = .f32) shapeCasts_S18432x64_S32x576x64 ]

/-- All the operations. -/
abbrev ops : List (HloOp τ sig (Elt F)) :=
  openOps ++ (stageOps0 ++ (stageOps1 ++ (stageOps2 ++ (stageOps3 ++ closeOps))))

/-- The program is the straight line of these operations. -/
theorem main_eq (c : Dev nD) : main (F := F) c = seq ops := rfl

end Cert.Proof.RI

end
-- ==== Proof.RI.Stage.lean ====
/-
  What the reference's stages leave in their buffers.

  `dist`, `nearest`, `rows`, `addLoss` are one stage of the reference as operations on whole arrays: squared distances of the
  residual's rows to the codebook's rows, the first nearest codebook row of each, the rows named by given indices, and the
  loss with this stage's share added. Each stage's buffers are then read off its operations: whatever the buffers held before
  the stage, afterwards they hold these functions of the residual and the codebook.
-/
module

public import proofs.«01_k».proof.Proof.RI.Ops
public import Idealize.ShloMosaic.Lib.StableHlo.RunRead
public import Idealize.ShloMosaic.Lib.Pipeline.Frame

@[expose] public section

set_option maxRecDepth 20000

noncomputable section

namespace Cert.Proof.RI

open Cert.ReferenceIdeal Cert.ReferenceIdeal.Gen
open Idealize.ShloMosaic Idealize.ShloMosaic.TcCoe Idealize.ShloMosaic.StableHlo Idealize.SL.Sem

variable {F : FTy → Type} [FloatOps F]

/-- The squared distances: row `i`, column `k` is ‖r_i‖² − 2·r_i·C_k + ‖C_k‖². -/
def dist (r : FVec F S18432x64 .f32) (C : FVec F S1024x64 .f32) : FVec F S18432x1024 .f32 :=
  addf
    (subf
      (broadcastInDim S18432x1024 ![0, 1] bcast_S18432x1_S18432x1024_0_1
        (broadcastInDim S18432x1 ![0] bcast_S18432_S18432x1_0
          (Host.reduceAdd (mulf r r) (constant S_ .f32 0x00000000#32) reducesTo_S18432x64_S18432_d1 h_S_)))
      (mulf (broadcastInDim S18432x1024 ![] bcast_S_S18432x1024 (constant S_ .f32 0x40000000#32))
        (Host.dotGeneral dot_S18432x64_S64x1024_S18432x1024_1_0_0_1_n_n none r
          (transpose S64x1024 [1, 0] C transposes_S1024x64_S64x1024_1_0))))
    (broadcastInDim S18432x1024 ![0, 1] bcast_S1x1024_S18432x1024_0_1
      (broadcastInDim S1x1024 ![1] bcast_S1024_S1x1024_1
        (Host.reduceAdd (mulf C C) (constant S_ .f32 0x00000000#32) reducesTo_S1024x64_S1024_d1 h_S_)))

/-- The arg-min of each row of an array of distances. -/
def nearest (d : FVec F S18432x1024 .f32) : IVec S18432 32 := fun j =>
  (Host.argReduce reducer_argmin_f32_i32 d (iotaInDim S18432x1024 32 1) (constant S_ .f32 0x7F800000#32)
    (constantI S_ 32 0#32) reducesTo_S18432x1024_S18432_d1 h_S_ j).2

/-- The indices `take` reads at: a negative one counts from the end. As a column. -/
def wrapped (i : IVec S18432 32) : IVec S18432x1 32 :=
  broadcastInDim S18432x1 ![0] bcast_S18432_S18432x1_0
    (select (cmpi .slt i (broadcastInDim S18432 ![] bcast_S_S18432 (constantI S_ 32 0#32)))
      (addi i (broadcastInDim S18432 ![] bcast_S_S18432 (constantI S_ 32 1024#32))) i)

/-- The rows of `C` at the indices `i`; a row whose index is out of range is filled with one constant. -/
def rows (C : FVec F S1024x64 .f32) (i : IVec S18432 32) : FVec F S18432x64 .f32 :=
  select
    (broadcastInDim S18432x64 ![0] bcast_S18432_S18432x64_0
      (Host.reduce IntOp.andi
        (andi
          (cmpi .sge (wrapped i) (broadcastInDim S18432x1 ![] bcast_S_S18432x1 (constantI S_ 32 0#32)))
          (cmpi .sle (wrapped i)
            (broadcastInDim S18432x1 ![0, 1] bcast_S1x1_S18432x1_0_1
              (broadcastInDim S1x1 ![1] bcast_S1_S1x1_1 (constantI S1 32 1023#32)))))
        (constantI S_ 1 1#1) reducesTo_S18432x1_S18432_d1 h_S_))
    (Host.gather gather_S1024x64_S18432x1_S18432x64_1_0_n_n_0_1_164 C (wrapped i))
    (broadcastInDim S18432x64 ![] bcast_S_S18432x64 (constant S_ .f32 0x7FC00000#32))

/-- The sum of the squared differences of two arrays of rows. -/
def sqErr (zq r : FVec F S18432x64 .f32) : FVec F S_ .f32 :=
  Host.reduceAdd (mulf (subf zq r) (subf zq r)) (constant S_ .f32 0x00000000#32) reducesTo_S18432x64_S_d0_1 h_S_

/-- The loss so far, and a quarter of the mean of a stage's squared errors, whose sum is `e`. -/
def addLoss (l e : FVec F S_ .f32) : FVec F S_ .f32 :=
  addf l (mulf (constant S_ .f32 0x3E800000#32) (Host.divf e (constant S_ .f32 0x49900000#32)))

/-- Codebook `k` of the four, as a matrix of rows. -/
def book (k : ℕ) (h : S4x1024x64.Slices ![k, 0, 0] S1x1024x64) (cb : FVec F S4x1024x64 .f32) : FVec F S1024x64 .f32 :=
  shapeCast S1024x64 (extractStridedSlice S1x1024x64 ![k, 0, 0] cb h) shapeCasts_S1x1024x64_S1024x64

/-- The row indices a stage picks for the residual `r` in the codebook `C`. -/
def stageIdx (r : FVec F S18432x64 .f32) (C : FVec F S1024x64 .f32) : IVec S18432 32 := nearest (dist r C)

/-- The codebook rows a stage picks. -/
def stageRows (r : FVec F S18432x64 .f32) (C : FVec F S1024x64 .f32) : FVec F S18432x64 .f32 := rows C (stageIdx r C)

variable (V : Valuation τ sig (Elt F))

/-- The opening leaves the input as rows, and a reconstruction of zeros. -/
theorem open_reads :
    after openOps V (main_v0 : DevRef τ sig) = shapeCast S18432x64 (V (main_arg0 : DevRef τ sig)) shapeCasts_S32x576x64_S18432x64
      ∧ after openOps V (main_v1 : DevRef τ sig) = broadcastInDim S18432x64 ![] bcast_S_S18432x64 (constant (F := F) S_ .f32 0x00000000#32) := by
  refine ⟨?_, ?_⟩ <;> after_reads_simp
  rfl

/-- What stage 0 leaves: its indices, the loss, the reconstruction and the residual. -/
theorem stage0_reads :
    after stageOps0 V (main_v18 : DevRef τ sig) = stageIdx (V (main_v0 : DevRef τ sig)) (book 0 slices_S4x1024x64_S1x1024x64_0_0_0 (V (main_arg1 : DevRef τ sig)))
      ∧ after stageOps0 V (main_v25 : DevRef τ sig) = addLoss (constant S_ .f32 0x00000000#32) (sqErr (stageRows (V (main_v0 : DevRef τ sig))
        (book 0 slices_S4x1024x64_S1x1024x64_0_0_0 (V (main_arg1 : DevRef τ sig)))) (V (main_v0 : DevRef τ sig)))
      ∧ after stageOps0 V (main_v26 : DevRef τ sig) = addf (V (main_v1 : DevRef τ sig)) (stageRows (V (main_v0 : DevRef τ sig))
        (book 0 slices_S4x1024x64_S1x1024x64_0_0_0 (V (main_arg1 : DevRef τ sig))))
      ∧ after stageOps0 V (main_v27 : DevRef τ sig) = subf (V (main_v0 : DevRef τ sig)) (stageRows (V (main_v0 : DevRef τ sig))
        (book 0 slices_S4x1024x64_S1x1024x64_0_0_0 (V (main_arg1 : DevRef τ sig)))) := by
  refine ⟨?_, ?_, ?_, ?_⟩ <;> after_reads_simp
  · rfl
  all_goals (simp only [TRef.ofBuf_toBuf]; rfl)

/-- Stage 0 writes neither the arguments nor what earlier stages still need. -/
theorem stage0_keeps :
    after stageOps0 V (main_arg0 : DevRef τ sig) = V (main_arg0 : DevRef τ sig)
      ∧ after stageOps0 V (main_arg1 : DevRef τ sig) = V (main_arg1 : DevRef τ sig)
      ∧ after stageOps0 V (main_v0 : DevRef τ sig) = V (main_v0 : DevRef τ sig) := by
  refine ⟨?_, ?_, ?_⟩ <;> after_reads_simp

/-- What stage 1 leaves: its indices, the loss, the reconstruction and the residual. -/
theorem stage1_reads :
    after stageOps1 V (main_v44 : DevRef τ sig) = stageIdx (V (main_v27 : DevRef τ sig)) (book 1 slices_S4x1024x64_S1x1024x64_1_0_0 (V (main_arg1 : DevRef τ sig)))
      ∧ after stageOps1 V (main_v51 : DevRef τ sig) = addLoss (V (main_v25 : DevRef τ sig)) (sqErr (stageRows (V (main_v27 : DevRef τ sig))
        (book 1 slices_S4x1024x64_S1x1024x64_1_0_0 (V (main_arg1 : DevRef τ sig)))) (V (main_v27 : DevRef τ sig)))
      ∧ after stageOps1 V (main_v52 : DevRef τ sig) = addf (V (main_v26 : DevRef τ sig)) (stageRows (V (main_v27 : DevRef τ sig))
        (book 1 slices_S4x1024x64_S1x1024x64_1_0_0 (V (main_arg1 : DevRef τ sig))))
      ∧ after stageOps1 V (main_v53 : DevRef τ sig) = subf (V (main_v27 : DevRef τ sig)) (stageRows (V (main_v27 : DevRef τ sig))
        (book 1 slices_S4x1024x64_S1x1024x64_1_0_0 (V (main_arg1 : DevRef τ sig)))) := by
  refine ⟨?_, ?_, ?_, ?_⟩ <;> after_reads_simp
  · rfl
  all_goals (simp only [TRef.ofBuf_toBuf]; rfl)

/-- Stage 1 writes neither the arguments nor what earlier stages still need. -/
theorem stage1_keeps :
    after stageOps1 V (main_arg0 : DevRef τ sig) = V (main_arg0 : DevRef τ sig)
      ∧ after stageOps1 V (main_arg1 : DevRef τ sig) = V (main_arg1 : DevRef τ sig)
      ∧ after stageOps1 V (main_v0 : DevRef τ sig) = V (main_v0 : DevRef τ sig)
      ∧ after stageOps1 V (main_v18 : DevRef τ sig) = V (main_v18 : DevRef τ sig) := by
  refine ⟨?_, ?_, ?_, ?_⟩ <;> after_reads_simp

/-- What stage 2 leaves: its indices, the loss, the reconstruction and the residual. -/
theorem stage2_reads :
    after stageOps2 V (main_v70 : DevRef τ sig) = stageIdx (V (main_v53 : DevRef τ sig)) (book 2 slices_S4x1024x64_S1x1024x64_2_0_0 (V (main_arg1 : DevRef τ sig)))
      ∧ after stageOps2 V (main_v77 : DevRef τ sig) = addLoss (V (main_v51 : DevRef τ sig)) (sqErr (stageRows (V (main_v53 : DevRef τ sig))
        (book 2 slices_S4x1024x64_S1x1024x64_2_0_0 (V (main_arg1 : DevRef τ sig)))) (V (main_v53 : DevRef τ sig)))
      ∧ after stageOps2 V (main_v78 : DevRef τ sig) = addf (V (main_v52 : DevRef τ sig)) (stageRows (V (main_v53 : DevRef τ sig))
        (book 2 slices_S4x1024x64_S1x1024x64_2_0_0 (V (main_arg1 : DevRef τ sig))))
      ∧ after stageOps2 V (main_v79 : DevRef τ sig) = subf (V (main_v53 : DevRef τ sig)) (stageRows (V (main_v53 : DevRef τ sig))
        (book 2 slices_S4x1024x64_S1x1024x64_2_0_0 (V (main_arg1 : DevRef τ sig)))) := by
  refine ⟨?_, ?_, ?_, ?_⟩ <;> after_reads_simp
  · rfl
  all_goals (simp only [TRef.ofBuf_toBuf]; rfl)

/-- Stage 2 writes neither the arguments nor what earlier stages still need. -/
theorem stage2_keeps :
    after stageOps2 V (main_arg0 : DevRef τ sig) = V (main_arg0 : DevRef τ sig)
      ∧ after stageOps2 V (main_arg1 : DevRef τ sig) = V (main_arg1 : DevRef τ sig)
      ∧ after stageOps2 V (main_v0 : DevRef τ sig) = V (main_v0 : DevRef τ sig)
      ∧ after stageOps2 V (main_v18 : DevRef τ sig) = V (main_v18 : DevRef τ sig)
      ∧ after stageOps2 V (main_v44 : DevRef τ sig) = V (main_v44 : DevRef τ sig) := by
  refine ⟨?_, ?_, ?_, ?_, ?_⟩ <;> after_reads_simp

/-- What stage 3 leaves: its indices, the loss, the reconstruction and the residual. -/
theorem stage3_reads :
    after stageOps3 V (main_v96 : DevRef τ sig) = stageIdx (V (main_v79 : DevRef τ sig)) (book 3 slices_S4x1024x64_S1x1024x64_3_0_0 (V (main_arg1 : DevRef τ sig)))
      ∧ after stageOps3 V (main_v103 : DevRef τ sig) = addLoss (V (main_v77 : DevRef τ sig)) (sqErr (stageRows (V (main_v79 : DevRef τ sig))
        (book 3 slices_S4x1024x64_S1x1024x64_3_0_0 (V (main_arg1 : DevRef τ sig)))) (V (main_v79 : DevRef τ sig)))
      ∧ after stageOps3 V (main_v104 : DevRef τ sig) = addf (V (main_v78 : DevRef τ sig)) (stageRows (V (main_v79 : DevRef τ sig))
        (book 3 slices_S4x1024x64_S1x1024x64_3_0_0 (V (main_arg1 : DevRef τ sig))))
      ∧ after stageOps3 V (main_v105 : DevRef τ sig) = subf (V (main_v79 : DevRef τ sig)) (stageRows (V (main_v79 : DevRef τ sig))
        (book 3 slices_S4x1024x64_S1x1024x64_3_0_0 (V (main_arg1 : DevRef τ sig)))) := by
  refine ⟨?_, ?_, ?_, ?_⟩ <;> after_reads_simp
  · rfl
  all_goals (simp only [TRef.ofBuf_toBuf]; rfl)

/-- Stage 3 writes neither the arguments nor what earlier stages still need. -/
theorem stage3_keeps :
    after stageOps3 V (main_arg0 : DevRef τ sig) = V (main_arg0 : DevRef τ sig)
      ∧ after stageOps3 V (main_arg1 : DevRef τ sig) = V (main_arg1 : DevRef τ sig)
      ∧ after stageOps3 V (main_v0 : DevRef τ sig) = V (main_v0 : DevRef τ sig)
      ∧ after stageOps3 V (main_v18 : DevRef τ sig) = V (main_v18 : DevRef τ sig)
      ∧ after stageOps3 V (main_v44 : DevRef τ sig) = V (main_v44 : DevRef τ sig)
      ∧ after stageOps3 V (main_v70 : DevRef τ sig) = V (main_v70 : DevRef τ sig) := by
  refine ⟨?_, ?_, ?_, ?_, ?_, ?_⟩ <;> after_reads_simp

/-- The close: the input plus the difference of the reconstruction and the input, in the input's shape. -/
theorem close_reads :
    after closeOps V (main_v108 : DevRef τ sig)
      = shapeCast S32x576x64 (addf (V (main_v0 : DevRef τ sig)) (subf (V (main_v104 : DevRef τ sig)) (V (main_v0 : DevRef τ sig))))
          shapeCasts_S18432x64_S32x576x64 := by
  after_reads_simp
  rfl

/-- The close writes no other result and no argument. -/
theorem close_keeps :
    after closeOps V (main_arg0 : DevRef τ sig) = V (main_arg0 : DevRef τ sig)
      ∧ after closeOps V (main_arg1 : DevRef τ sig) = V (main_arg1 : DevRef τ sig)
      ∧ after closeOps V (main_v103 : DevRef τ sig) = V (main_v103 : DevRef τ sig)
      ∧ after closeOps V (main_v18 : DevRef τ sig) = V (main_v18 : DevRef τ sig)
      ∧ after closeOps V (main_v44 : DevRef τ sig) = V (main_v44 : DevRef τ sig)
      ∧ after closeOps V (main_v70 : DevRef τ sig) = V (main_v70 : DevRef τ sig)
      ∧ after closeOps V (main_v96 : DevRef τ sig) = V (main_v96 : DevRef τ sig) := by
  refine ⟨?_, ?_, ?_, ?_, ?_, ?_, ?_⟩ <;> after_reads_simp

/-- The opening writes no argument. -/
theorem open_keeps :
    after openOps V (main_arg0 : DevRef τ sig) = V (main_arg0 : DevRef τ sig)
      ∧ after openOps V (main_arg1 : DevRef τ sig) = V (main_arg1 : DevRef τ sig) := by
  refine ⟨?_, ?_⟩ <;> after_reads_simp

end Cert.Proof.RI

end
-- ==== Proof.KI.Split.lean ====
/-
  The grouped codebooks.

  The split call cuts each entry of a codebook into a leading part and two remainders, and stores the three below one
  another. With every conversion exact the leading part is the entry itself and the remainders are the entry less itself,
  which is zero as soon as the entry is finite: so what it stores is a grouped codebook as `Layout` asks.
-/
module

public import proofs.«01_k».proof.Proof.Math.Quantise
public import proofs.«01_k».proof.Proof.Gen.KernelIdeal.Frame.Region0
public import proofs.«01_k».proof.Proof.RI.Stage
public import Idealize.ShloMosaic.Lib.Pipeline.Value
public import Idealize.ShloMosaic.Lib.Pointwise

@[expose] public section

noncomputable section

namespace Cert.Proof.KI

open Cert.KernelIdeal Cert.KernelIdeal.Gen Cert.Proof.Math
open Idealize.ShloMosaic Idealize.ShloMosaic.TcCoe Idealize.SL.Sem

/-- What stands in row `n` below an entry `a`. -/
def part (n : ℕ) (a : EReal) : EReal := if n < 256 then a else if n < 512 then a - a else a - a - (a - a)

/-- What the split call leaves, from what it is given. -/
def splitRows (X : FVec Ideal S4x256x256 .f32) : FVec Ideal S4x768x256 .f32 :=
  fun y => part (y 1).val (X (ix3 (y 0) ⟨(y 1).val % 256, Nat.mod_lt _ (by decide)⟩ (y 2)))

section Payloads
variable (v : FVec Ideal S1x256x256 .f32) (g c : Fin 256)

theorem lead_apply : k0_pay5 (F := Ideal) v (ix3 0 g c) = v (ix3 0 g c) := by
  pointwise [k0_pay5, k0_pay2, k0_pay1]

theorem middle_apply : k0_pay6 (F := Ideal) v (ix3 0 g c) = v (ix3 0 g c) - v (ix3 0 g c) := by
  pointwise [k0_pay6, k0_pay4, k0_pay3, k0_pay2, k0_pay1]

theorem last_apply : k0_pay7 (F := Ideal) v (ix3 0 g c)
    = v (ix3 0 g c) - v (ix3 0 g c) - (v (ix3 0 g c) - v (ix3 0 g c)) := by
  pointwise [k0_pay7, k0_pay4, k0_pay3, k0_pay2, k0_pay1]

end Payloads

theorem zero3 : (![0, 0, 0] : Fin 3 → ℕ) = fun _ => 0 := funext fun a => by fin_cases a <;> rfl

/-- What one point of the split call stores. -/
def splitBlock (x : FVec Ideal S1x256x256 .f32) : FVec Ideal S1x768x256 .f32 :=
  fun y => part (y 1).val (x (ix3 0 ⟨(y 1).val % 256, Nat.mod_lt _ (by decide)⟩ (y 2)))

theorem idx_block (y : S1x256x256.Idx) : ∃ g c : Fin 256, y = ix3 0 g c :=
  ⟨y 1, y 2, funext fun a => by
    match a with
    | ⟨0, _⟩ => exact Fin.ext (by have : (y 0).val < 1 := (y 0).isLt; show (y 0).val = 0; omega)
    | ⟨1, _⟩ => rfl
    | ⟨2, _⟩ => rfl⟩

theorem splitBlock_at (x : FVec Ideal S1x256x256 .f32) (n : ℕ) (g c : Fin 256) (y : S1x768x256.Idx)
    (h1 : (y 1).val = 256 * n + g.val) (h2 : (y 2).val = c.val) : splitBlock x y = part (256 * n + g.val) (x (ix3 0 g c)) := by
  unfold splitBlock
  refine congrArg₂ part h1 (congrArg x (funext fun a => ?_))
  match a with
  | ⟨0, _⟩ => rfl
  | ⟨1, _⟩ => exact Fin.ext (by show (y 1).val % 256 = g.val; rw [h1]; omega)
  | ⟨2, _⟩ => exact Fin.ext h2

/-- The block the body leaves, entry by entry. -/
theorem split_out (x : FVec Ideal S1x256x256 .f32) : out0_1 (F := Ideal) x = splitBlock x := by
  funext y
  unfold out0_1
  rw [View.ld_unit_zero (S := S1x256x256) zero3]
  refine View.canon_apply_of_pieces (Val := Elt Ideal) (e := .f32) (splitBlock x) _ ?_ y (cover0_1 _ _ _ y)
  intro p hp z
  rcases List.mem_cons.mp hp with rfl | hp
  · obtain ⟨g, c, rfl⟩ := idx_block z
    rw [splitBlock_at x 2 g c _ (by show 512 + 1 * g.val = _; omega) (by show 0 + 1 * c.val = _; omega)]
    refine (last_apply x g c).trans ?_
    unfold part; rw [if_neg (by omega), if_neg (by omega)]
  rcases List.mem_cons.mp hp with rfl | hp
  · obtain ⟨g, c, rfl⟩ := idx_block z
    rw [splitBlock_at x 1 g c _ (by show 256 + 1 * g.val = _; omega) (by show 0 + 1 * c.val = _; omega)]
    refine (middle_apply x g c).trans ?_
    unfold part; rw [if_neg (by omega), if_pos (by omega)]
  rcases List.mem_cons.mp hp with rfl | hp
  · obtain ⟨g, c, rfl⟩ := idx_block z
    rw [splitBlock_at x 0 g c _ (by show 0 + 1 * g.val = _; omega) (by show 0 + 1 * c.val = _; omega)]
    refine (lead_apply x g c).trans ?_
    unfold part; rw [if_pos (by omega)]
  · exact absurd hp (List.not_mem_nil)

theorem splitIndex0 (t : Fin grid0.N) : win0_0.index t 0 = t.val ∧ win0_0.index t 1 = 0 ∧ win0_0.index t 2 = 0 := by
  revert t; decide +kernel

theorem splitIndex1 (t : Fin grid0.N) : win0_1.index t 0 = t.val ∧ win0_1.index t 1 = 0 ∧ win0_1.index t 2 = 0 := by
  revert t; decide +kernel

/-- A point of the split call, as a codebook's number. -/
def which (t : Fin grid0.N) : Fin 4 := ⟨t.val, lt_of_lt_of_eq t.isLt N_0⟩

theorem emb_splitIn (t : Fin grid0.N) (j : S1x256x256.Idx) : (win0_0.rect t).emb j = (ix3 (which t) (j 1) (j 2) : S4x256x256.Idx) := by
  funext a
  apply Fin.ext
  match a with
  | ⟨0, _⟩ => show win0_0.index t 0 * 1 + 1 * (j 0).val = t.val; rw [(splitIndex0 t).1]; have : (j 0).val < 1 := (j 0).isLt; omega
  | ⟨1, _⟩ => show win0_0.index t 1 * 256 + 1 * (j 1).val = (j 1).val; rw [(splitIndex0 t).2.1]; omega
  | ⟨2, _⟩ => show win0_0.index t 2 * 256 + 1 * (j 2).val = (j 2).val; rw [(splitIndex0 t).2.2]; omega

theorem emb_splitOut (t : Fin grid0.N) (j : S1x768x256.Idx) : (win0_1.rect t).emb j = (ix3 (which t) (j 1) (j 2) : S4x768x256.Idx) := by
  funext a
  apply Fin.ext
  match a with
  | ⟨0, _⟩ => show win0_1.index t 0 * 1 + 1 * (j 0).val = t.val; rw [(splitIndex1 t).1]; have : (j 0).val < 1 := (j 0).isLt; omega
  | ⟨1, _⟩ => show win0_1.index t 1 * 768 + 1 * (j 1).val = (j 1).val; rw [(splitIndex1 t).2.1]; omega
  | ⟨2, _⟩ => show win0_1.index t 2 * 256 + 1 * (j 2).val = (j 2).val; rw [(splitIndex1 t).2.2]; omega

theorem cover_split (i : S4x768x256.Idx) : ∃ t : Fin grid0.N, i ∈ (win0_1.rect t).set := by
  have h0 : (i 0 : ℕ) < 4 := (i 0).isLt
  have h1 : (i 1 : ℕ) < 768 := (i 1).isLt
  have h2 : (i 2 : ℕ) < 256 := (i 2).isLt
  refine ⟨⟨(i 0 : ℕ), lt_of_lt_of_eq h0 N_0.symm⟩, ?_⟩
  rw [Rect.mem_set_unit]
  intro a
  match a with
  | ⟨0, _⟩ =>
    show win0_1.index _ 0 * 1 ≤ (i 0 : ℕ) ∧ (i 0 : ℕ) < win0_1.index _ 0 * 1 + 1
    rw [(splitIndex1 _).1]; show (i 0 : ℕ) * 1 ≤ _ ∧ _ < (i 0 : ℕ) * 1 + 1; omega
  | ⟨1, _⟩ =>
    show win0_1.index _ 1 * 768 ≤ (i 1 : ℕ) ∧ (i 1 : ℕ) < win0_1.index _ 1 * 768 + 768
    rw [(splitIndex1 _).2.1]; omega
  | ⟨2, _⟩ =>
    show win0_1.index _ 2 * 256 ≤ (i 2 : ℕ) ∧ (i 2 : ℕ) < win0_1.index _ 2 * 256 + 256
    rw [(splitIndex1 _).2.2]; omega

section Array
variable (V : (c : Dev nD) → (b : Ref sig .tc) → Buf (Elt Ideal) ((c : Thread nD τ).loc b)) (c : Dev nD)

theorem splitIn (t : Fin cfg0.N) : iblk0 V c 0 t = (fun j => V c main_v1 (ix3 (which t) (j 1) (j 2)) : FVec Ideal S1x256x256 .f32) :=
  funext fun j => congrArg (V c main_v1) (emb_splitIn t j)

theorem splitOut (A : FVec Ideal S4x768x256 .f32) (t : Fin cfg0.N) :
    (fun j : S1x768x256.Idx => A (ix3 (which t) (j 1) (j 2))) = ((cfg0.win 1).blk t).view.read (Elt Ideal) A :=
  funext fun j => congrArg A (emb_splitOut t j).symm

/-- The array the split call leaves. -/
theorem split_array : (dat0 V c).arrAt 1 cfg0.N = splitRows (V c main_v1) :=
  (dat0 V c).arrAt_eq_of_cover 1 (splitRows (V c main_v1))
    (fun t _ => (((after0_1 V c t).trans (split_out _)).trans (congrArg splitBlock (splitIn V c t))).trans
      (splitOut (splitRows (V c main_v1)) t))
    fun i => (cover_split i).imp fun t ht => ⟨flush0_1 t, by
      rw [show ((cfg0.win 1).blk t).view.set = _ from View.set_slice_whole ..]; exact ht⟩

end Array

/-- The grouped codebook number `k`, as the stages read it. -/
def grouped (k : ℕ) (h : S4x768x256.Slices ![k, 0, 0] S1x768x256) (A : FVec Ideal S4x768x256 .f32) : FVec Ideal S768x256 .f32 :=
  shapeCast S768x256 (extractStridedSlice S1x768x256 ![k, 0, 0] A h) shapeCasts_S1x768x256_S768x256

theorem grouped_apply (k : Fin 4) (h : S4x768x256.Slices ![k.val, 0, 0] S1x768x256) (A : FVec Ideal S4x768x256 .f32)
    (x : Fin 768) (c : Fin 256) : grouped k.val h A (ix2 x c) = A (ix3 k x c) := by
  unfold grouped
  rw [shapeCast_apply _ _ _ (ix3 0 x c : S1x768x256.Idx)
    (by rw [Shape.rowMajor_val_three, Shape.rowMajor_val_two]; show (0 * 768 + x.val) * 256 + c.val = x.val * 256 + c.val; omega)]
  exact extractStridedSlice_apply _ _ _ _ _ fun a => by
    match a with
    | ⟨0, _⟩ => rfl
    | ⟨1, _⟩ => show x.val = 0 + x.val; omega
    | ⟨2, _⟩ => show c.val = 0 + c.val; omega

/-- An entry of codebook number `k`. -/
theorem book_apply (k : Fin 4) (h : S4x1024x64.Slices ![k.val, 0, 0] S1x1024x64) (cb : FVec Ideal S4x1024x64 .f32)
    (p : Fin 1024) (j : Fin 64) : RI.book k.val h cb (ix2 p j) = cb (ix3 k p j) := by
  unfold RI.book
  rw [shapeCast_apply _ _ _ (ix3 0 p j : S1x1024x64.Idx)
    (by rw [Shape.rowMajor_val_three, Shape.rowMajor_val_two]; show (0 * 1024 + p.val) * 64 + j.val = p.val * 64 + j.val; omega)]
  exact extractStridedSlice_apply _ _ _ _ _ fun a => by
    match a with
    | ⟨0, _⟩ => rfl
    | ⟨1, _⟩ => show p.val = 0 + p.val; omega
    | ⟨2, _⟩ => show j.val = 0 + j.val; omega

/-- The codebooks regrouped, four rows side by side. -/
theorem regroup_apply (cb : FVec Ideal S4x1024x64 .f32) (k : Fin 4) (p : Fin 1024) (j : Fin 64) (g c : Fin 256)
    (hg : g.val = p.val / 4) (hc : c.val = 64 * (p.val % 4) + j.val) :
    shapeCast S4x256x256 cb shapeCasts_S4x1024x64_S4x256x256 (ix3 k g c) = cb (ix3 k p j) :=
  shapeCast_apply _ _ _ _ (by
    rw [Shape.rowMajor_val_three, Shape.rowMajor_val_three]
    show (k.val * 1024 + p.val) * 64 + j.val = (k.val * 256 + g.val) * 256 + c.val
    rw [hg, hc]; omega)

/-- The grouped codebook `k` is laid out as `Layout` asks, when the codebooks hold finite numbers. -/
theorem grouped_layout (k : Fin 4) (h : S4x1024x64.Slices ![k.val, 0, 0] S1x1024x64)
    (h' : S4x768x256.Slices ![k.val, 0, 0] S1x768x256) (cb : FVec Ideal S4x1024x64 .f32) (hfin : ∀ i, cb i - cb i = 0) :
    Layout (mat (RI.book k.val h cb)) (mat (grouped k.val h' (splitRows (shapeCast S4x256x256 cb shapeCasts_S4x1024x64_S4x256x256)))) := by
  refine ⟨fun p j => ?_, fun x c hx => ?_⟩
  · show grouped k.val h' _ (ix2 (group p) _) = RI.book k.val h cb (ix2 p j)
    rw [grouped_apply, book_apply]
    have hp : p.val / 4 < 256 := by have := p.isLt; omega
    show part (p.val / 4) _ = _
    unfold part
    rw [if_pos hp]
    exact regroup_apply cb k p j _ _ (Nat.mod_eq_of_lt hp) rfl
  · show grouped k.val h' _ (ix2 x c) = 0
    rw [grouped_apply]
    have hz : ∀ a : EReal, a - a = 0 → part x.val a = 0 := fun a ha => by
      unfold part
      rw [if_neg (by omega), ha, sub_zero, ite_self]
    refine hz _ ?_
    exact hfin _

end Cert.Proof.KI

end
-- ==== Proof.RI.Run.lean ====
/-
  The reference's run: what every execution of the reference leaves in its six results.

  `residual k` is the residual entering stage `k`, `loss k` and `recon k` the loss and the reconstruction entering it; each
  is the previous stage's, one stage of `Stage.lean` later. Every execution ends with the results at these functions of the
  arguments, and the arguments unchanged (`run_main`).
-/
module

public import proofs.«01_k».proof.Proof.RI.Stage

@[expose] public section

set_option maxRecDepth 20000

noncomputable section

namespace Cert.Proof.RI

open Cert.ReferenceIdeal Cert.ReferenceIdeal.Gen
open Idealize.ShloMosaic Idealize.ShloMosaic.TcCoe Idealize.ShloMosaic.StableHlo Idealize.SL.Sem

variable {F : FTy → Type} [FloatOps F]

/-- The four codebooks. -/
def books (cb : FVec F S4x1024x64 .f32) : Fin 4 → FVec F S1024x64 .f32 :=
  ![book 0 slices_S4x1024x64_S1x1024x64_0_0_0 cb, book 1 slices_S4x1024x64_S1x1024x64_1_0_0 cb,
    book 2 slices_S4x1024x64_S1x1024x64_2_0_0 cb, book 3 slices_S4x1024x64_S1x1024x64_3_0_0 cb]

/-- The residual after one stage. -/
def stageNext (r : FVec F S18432x64 .f32) (C : FVec F S1024x64 .f32) : FVec F S18432x64 .f32 := subf r (stageRows r C)

/-- The loss after one stage. -/
def stageLoss (l : FVec F S_ .f32) (r : FVec F S18432x64 .f32) (C : FVec F S1024x64 .f32) : FVec F S_ .f32 :=
  addLoss l (sqErr (stageRows r C) r)

/-- The input as rows. -/
def rows0 (z : FVec F S32x576x64 .f32) : FVec F S18432x64 .f32 := shapeCast S18432x64 z shapeCasts_S32x576x64_S18432x64
/-- The residuals entering stages 1, 2 and 3. -/
def rows1 (z : FVec F S32x576x64 .f32) (cb : FVec F S4x1024x64 .f32) : FVec F S18432x64 .f32 := stageNext (rows0 z) (books cb 0)
def rows2 (z : FVec F S32x576x64 .f32) (cb : FVec F S4x1024x64 .f32) : FVec F S18432x64 .f32 := stageNext (rows1 z cb) (books cb 1)
def rows3 (z : FVec F S32x576x64 .f32) (cb : FVec F S4x1024x64 .f32) : FVec F S18432x64 .f32 := stageNext (rows2 z cb) (books cb 2)

/-- The loss of all four stages. -/
def outLoss (z : FVec F S32x576x64 .f32) (cb : FVec F S4x1024x64 .f32) : FVec F S_ .f32 :=
  stageLoss (stageLoss (stageLoss (stageLoss (constant S_ .f32 0x00000000#32) (rows0 z) (books cb 0))
    (rows1 z cb) (books cb 1)) (rows2 z cb) (books cb 2)) (rows3 z cb) (books cb 3)

/-- The reconstruction: the sum, from zeros, of the rows the four stages pick. -/
def outRecon (z : FVec F S32x576x64 .f32) (cb : FVec F S4x1024x64 .f32) : FVec F S18432x64 .f32 :=
  addf (addf (addf (addf (broadcastInDim S18432x64 ![] bcast_S_S18432x64 (constant (F := F) S_ .f32 0x00000000#32))
    (stageRows (rows0 z) (books cb 0))) (stageRows (rows1 z cb) (books cb 1))) (stageRows (rows2 z cb) (books cb 2)))
    (stageRows (rows3 z cb) (books cb 3))

/-- The straight-through output. -/
def outZ (z : FVec F S32x576x64 .f32) (cb : FVec F S4x1024x64 .f32) : FVec F S32x576x64 .f32 :=
  shapeCast S32x576x64 (addf (rows0 z) (subf (outRecon z cb) (rows0 z))) shapeCasts_S18432x64_S32x576x64

/-- What a valuation holds at the reference's results and arguments, all of it functions of `z` and `cb`. -/
def Results (W : Valuation τ sig (Elt F)) (z : FVec F S32x576x64 .f32) (cb : FVec F S4x1024x64 .f32) : Prop :=
  W (main_v108 : DevRef τ sig) = outZ z cb
    ∧ W (main_v103 : DevRef τ sig) = outLoss z cb
    ∧ W (main_v18 : DevRef τ sig) = stageIdx (rows0 z) (books cb 0)
    ∧ W (main_v44 : DevRef τ sig) = stageIdx (rows1 z cb) (books cb 1)
    ∧ W (main_v70 : DevRef τ sig) = stageIdx (rows2 z cb) (books cb 2)
    ∧ W (main_v96 : DevRef τ sig) = stageIdx (rows3 z cb) (books cb 3)
    ∧ W (main_arg0 : DevRef τ sig) = z
    ∧ W (main_arg1 : DevRef τ sig) = cb

/-- The operations, run from contents `V`, leave the results at those functions of the arguments. -/
theorem after_ops (V : Valuation τ sig (Elt F)) :
    Results (after ops V) (V (main_arg0 : DevRef τ sig)) (V (main_arg1 : DevRef τ sig)) := by
  rw [show after ops V = after closeOps (after stageOps3 (after stageOps2 (after stageOps1 (after stageOps0 (after openOps V))))) by
    unfold ops; iterate 5 rw [StableHlo.after_append]]
  generalize hz : V (main_arg0 : DevRef τ sig) = z
  generalize hcb : V (main_arg1 : DevRef τ sig) = cb
  obtain ⟨o0, o1⟩ := open_reads V
  obtain ⟨oa0, oa1⟩ := open_keeps V
  generalize after openOps V = V0 at *
  obtain ⟨s0i, s0l, s0c, s0r⟩ := stage0_reads V0
  obtain ⟨k0a, k0b, k0z⟩ := stage0_keeps V0
  generalize after stageOps0 V0 = V1 at *
  obtain ⟨s1i, s1l, s1c, s1r⟩ := stage1_reads V1
  obtain ⟨k1a, k1b, k1z, k1i0⟩ := stage1_keeps V1
  generalize after stageOps1 V1 = V2 at *
  obtain ⟨s2i, s2l, s2c, s2r⟩ := stage2_reads V2
  obtain ⟨k2a, k2b, k2z, k2i0, k2i1⟩ := stage2_keeps V2
  generalize after stageOps2 V2 = V3 at *
  obtain ⟨s3i, s3l, s3c, s3r⟩ := stage3_reads V3
  obtain ⟨k3a, k3b, k3z, k3i0, k3i1, k3i2⟩ := stage3_keeps V3
  generalize after stageOps3 V3 = V4 at *
  have cz := close_reads V4
  obtain ⟨ca, cb', cl, ci0, ci1, ci2, ci3⟩ := close_keeps V4
  generalize after closeOps V4 = V5 at *
  -- the arguments and the input rows, at every stage
  rw [hz] at o0 oa0
  rw [hcb] at oa1
  rw [o0] at k0z s0i s0l s0r
  rw [oa0] at k0a
  rw [oa1] at k0b s0i s0l s0c s0r
  rw [o0] at s0c
  rw [k0a] at k1a
  rw [k0b] at k1b s1i s1l s1c s1r
  rw [k0z] at k1z
  rw [k1a] at k2a
  rw [k1b] at k2b s2i s2l s2c s2r
  rw [k1z] at k2z
  rw [k2a] at k3a
  rw [k2b] at k3b s3i s3l s3c s3r
  rw [k2z] at k3z
  -- the residual, the reconstruction and the loss, from stage to stage
  rw [o1] at s0c
  rw [s0r] at s1i s1l s1c s1r
  rw [s0c] at s1c
  rw [s0l] at s1l
  rw [s1r] at s2i s2l s2c s2r
  rw [s1c] at s2c
  rw [s1l] at s2l
  rw [s2r] at s3i s3l s3c s3r
  rw [s2c] at s3c
  rw [s2l] at s3l
  exact ⟨by rw [cz, s3c, k3z]; rfl, by rw [cl, s3l]; rfl, by rw [ci0, k3i0, k2i0, k1i0, s0i]; rfl,
    by rw [ci1, k3i1, k2i1, s1i]; rfl, by rw [ci2, k3i2, s2i]; rfl, by rw [ci3, s3i]; rfl,
    by rw [ca, k3a], by rw [cb', k3b]⟩

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the program only. -/
theorem ops_sub : (ops : List (HloOp τ sig (Elt F))).Forall fun op => op.bufs ⊆ tcRefs τ sig := by
  simp only [ops, openOps, stageOps0, stageOps1, stageOps2, stageOps3, closeOps, argminOps, takeOps, List.cons_append,
    List.nil_append, List.append_nil, List.forall_cons, unary_bufs_sub, nullary_bufs_sub, binary_bufs_sub, ternary_bufs_sub,
    quaternary_bufs_sub, reshape_bufs_sub, and_self, List.Forall]

/-- Every execution of the reference ends, its results at those functions of the arguments and the arguments unchanged. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, Results (fun b => r.2.mem (c, b)) (m ((c.tc : Thread nD τ).loc main_arg0)) (m ((c.tc : Thread nD τ).loc main_arg1)) :=
  θ_run_mono (run_seq scopedRefs_eq scopedSems_eq defs main (fun _ => ops) main_eq (fun _ => ops_sub) m ρ) fun r h c => by
    have := after_ops (F := F) (launchContents m c)
    unfold Results at this ⊢
    exact ⟨(h c main_v108).trans this.1, (h c main_v103).trans this.2.1, (h c main_v18).trans this.2.2.1,
      (h c main_v44).trans this.2.2.2.1, (h c main_v70).trans this.2.2.2.2.1, (h c main_v96).trans this.2.2.2.2.2.1,
      (h c main_arg0).trans this.2.2.2.2.2.2.1, (h c main_arg1).trans this.2.2.2.2.2.2.2⟩

end Cert.Proof.RI

end
-- ==== Proof.Math.Rows.lean ====
/-
  Two operations over the rows of a matrix, for matrices of any size: the arg-min along the rows, and the gather of whole
  rows at a column of row indices.
-/
module

public import proofs.«01_k».proof.Proof.Math.FirstMin
public import Idealize.ShloMosaic.Lib.ValueIdxCore

@[expose] public section

noncomputable section

namespace Cert.Proof.Math

open Idealize.ShloMosaic

/-- The index of a matrix's fiber over row `i` is the row's `k`-th entry. -/
theorem lift_row {n m : ℕ} (h : Shape.Reduces ⟨2, ![n, m]⟩ [1] ⟨1, ![n]⟩) (i : Fin n)
    (k : Fin ((⟨2, ![n, m]⟩ : Shape).size 1)) : h.lift (ix1 i) k = ix2 (n0 := n) (n1 := m) i k := by
  funext c
  apply Fin.ext
  rw [Shape.Reduces.lift_val]
  match c with
  | ⟨0, _⟩ => rfl
  | ⟨1, _⟩ => rfl

/-- What a reduction of one axis folds over, with indices: the values along that axis with theirs. -/
theorem mem_argReduceFiber {s t : Shape} {a : Fin s.rank} (h : s.ReducesTo [a] t) (h' : s.Reduces [a] t)
    (x : s.Idx → EReal) (y : s.Idx → BitVec 32) (j : t.Idx) (p : EReal × BitVec 32) :
    p ∈ Host.argReduceFiber x y h j ↔ ∃ k, p = (x (h'.lift j k), y (h'.lift j k)) := by
  unfold Host.argReduceFiber
  simp only [List.mem_map, List.mem_filter, List.mem_finRange, true_and, decide_eq_true_eq]
  constructor
  · rintro ⟨q, hq, rfl⟩
    rw [Shape.ReducesTo.drop_eq_drop h h'] at hq
    have e := h'.lift_drop (s.rowMajor.symm q)
    rw [hq] at e
    exact ⟨(s.rowMajor.symm q) a, by rw [e]⟩
  · rintro ⟨k, rfl⟩
    refine ⟨s.rowMajor (h'.lift j k), ?_, ?_⟩
    · rw [Equiv.symm_apply_apply, Shape.ReducesTo.drop_eq_drop h h', h'.drop_lift]
    · rw [Equiv.symm_apply_apply]

/-- The arg-min along an axis, from +∞ and index 0: the position of the first minimum along that axis. -/
theorem argReduce_axis {s t u : Shape} {a : Fin s.rank} (hm : s.size a < 2147483648)
    (f : Ideal .f32 × BitVec 32 → Ideal .f32 × BitVec 32 → Ideal .f32 × BitVec 32)
    (hf : f = argminStep) (x : FVec Ideal s .f32) (y : s.Idx → BitVec 32) (ix : FVec Ideal u .f32) (iy : IVec u 32)
    (hix : ∀ j, ix j = (⊤ : EReal)) (hiy : ∀ j, iy j = 0#32) (h : s.ReducesTo [a] t) (h' : s.Reduces [a] t) (hu : 0 < u.numel)
    (j : t.Idx) (hy : ∀ k, y (h'.lift j k) = BitVec.ofNat 32 k.val) (k : Fin (s.size a))
    (hk : IsFirstMin (fun k => x (h'.lift j k)) k) (N : IVec t 32)
    (hN : N = fun j => (Host.argReduce (F := Ideal) (φ := .f32) f x y ix iy h hu j).2) :
    N j = BitVec.ofNat 32 k.val := by
  rw [hN]
  show (Host.argReduce (F := Ideal) (φ := .f32) f x y ix iy h hu j).2 = BitVec.ofNat 32 k.val
  rw [Ideal.argReduce_eq_reduce2, Host.reduce2_eq_foldl_fiber, hix, hiy, hf]
  refine foldl_argmin hm hk _ fun p => ?_
  rw [mem_argReduceFiber h h' x y j p]
  exact exists_congr fun k => by rw [hy]

/-- The dimension numbers of a gather of whole rows of an `[N, C]` matrix at a column `[B, 1]` of row indices. -/
abbrev rowDims (N C B : ℕ)
    (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- A gather of whole rows, at `(i, j)`: column `j` of the row that index `i` names, if there is one. -/
theorem gather_rows {α : Type} {N C B w : ℕ}
    (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (i : Fin B) (j : Fin C) (k : Fin N)
    (hk : (idx (ix2 i 0)).toInt = k.val) :
    Host.gather (rowDims N C B wf) x idx (ix2 i j) = x (ix2 k j) := by
  unfold Host.gather
  congr 1
  funext a
  refine Fin.ext ?_
  show (rowDims N C B wf).start (ix2 i j) idx a + (rowDims N C B wf).batchCoord (ix2 i j) a
      + (rowDims N C B wf).offCoord (ix2 i j) a = _
  rw [GatherDims.batchCoord_eq_zero _ _ _ List.not_mem_nil]
  have h01 : a = 0 ∨ a = 1 := by
    match a with
    | ⟨0, _⟩ => exact .inl rfl
    | ⟨1, _⟩ => exact .inr rfl
  have hne : ¬(1 : Fin 2) ∈ [(0 : Fin 2)] := by decide
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (rowDims N C B wf).startIndexMap from List.mem_singleton.mpr rfl)]
    have hsi : (rowDims N C B wf).siIdx (ix2 i j) ⟨List.idxOf (0 : Fin 2) (rowDims N C B wf).startIndexMap,
        List.idxOf_lt_length_iff.2 (List.mem_singleton.mpr rfl)⟩ = ix2 i 0 := by
      funext b
      refine Fin.ext ?_
      match b with
      | ⟨0, _⟩ => rfl
      | ⟨1, _⟩ => rfl
    rw [hsi, hk]
    have := k.isLt
    show min (k.val : ℤ).toNat (N - 1) + 0 + 0 = k.val
    rw [Int.toNat_natCast]
    omega
  · have hs : (rowDims N C B wf).start (ix2 i j) idx 1 = 0 := by
      unfold GatherDims.start
      exact dif_neg hne
    have ho : (rowDims N C B wf).offCoord (ix2 i j) 1 = j.val := by
      unfold GatherDims.offCoord
      rw [dif_pos ((GatherDims.mem_sKept _ _).mpr ⟨hne, List.not_mem_nil⟩)]
      rfl
    rw [hs, ho]
    exact Nat.zero_add _

end Cert.Proof.Math

end
-- ==== Proof.RI.Pick.lean ====
/-
  What one stage of the reference computes, entry by entry, over the extended reals.

  The distances are the sums they are written as; the index a stage picks for row `i` is the position of the first least
  distance of that row, and the row it reads from the codebook is the row of that number.
-/
module

public import proofs.«01_k».proof.Proof.RI.Run
public import proofs.«01_k».proof.Proof.Math.Rows
public import proofs.«01_k».proof.Proof.Math.Quantise

@[expose] public section

noncomputable section

namespace Cert.Proof.RI

open Cert.ReferenceIdeal Cert.ReferenceIdeal.Gen Cert.Proof.Math
open Idealize.ShloMosaic Idealize.SL.Sem

/-- The distances at row `i` and column `k`: from row `i` of the residual to row `k` of the codebook. -/
theorem dist_apply (r : FVec Ideal S18432x64 .f32) (C : FVec Ideal S1024x64 .f32) (i : Fin 18432) (k : Fin 1024) :
    dist r C (ix2 i k) = sqDist (mat r i) (mat C k) := by
  unfold sqDist mat
  pointwise [dist]

/-- The reference's arg-min body is the one the arg-min lemmas are stated for. -/
theorem reducer_eq : (reducer_argmin_f32_i32 (F := Ideal)) = argminStep := by
  funext a b
  obtain ⟨x, i⟩ := a
  obtain ⟨y, j⟩ := b
  simp only [reducer_argmin_f32_i32, argminStep, Ideal.cmpf_def, Ideal.cmp, IntOp.cmpi, IntOp.ori, IntOp.andi,
    Scalar.select]
  by_cases h : x < y
  · simp [h, h.ne]
  · by_cases e : x = y
    · subst e
      by_cases s : i.slt j <;> simp [s]
    · simp [h, e]

theorem reduces_rows : Shape.Reduces S18432x1024 [1] S18432 := by decide

/-- The arg-min of row `i` is the position of its first minimum. -/
theorem nearest_apply (d : FVec Ideal S18432x1024 .f32) (i : Fin 18432) (k : Fin 1024)
    (hk : IsFirstMin (fun k => d (ix2 i k)) k) : nearest d (ix1 i) = BitVec.ofNat 32 k.val := by
  have e : ∀ q : Fin (S18432x1024.size 1), reduces_rows.lift (ix1 i) q = ix2 (n0 := 18432) (n1 := 1024) i q :=
    fun q => lift_row reduces_rows i q
  have hm : S18432x1024.size 1 < 2147483648 := show 1024 < 2147483648 by decide
  have hk' : IsFirstMin (fun q => d (reduces_rows.lift (ix1 i) q)) k := by
    rw [← show (fun q : Fin 1024 => d (reduces_rows.lift (ix1 i) q)) = fun q => d (ix2 i q) from
      funext fun q => congrArg d (e q)] at hk
    exact hk
  have hix : ∀ j, constant (F := Ideal) S_ .f32 0x7F800000#32 j = (⊤ : EReal) := fun _ => ofBits_top
  have hiy : ∀ j, constantI S_ 32 0#32 j = 0#32 := fun _ => rfl
  have hy : ∀ q : Fin (S18432x1024.size 1), iotaInDim S18432x1024 32 1 (reduces_rows.lift (ix1 i) q) = BitVec.ofNat 32 q.val :=
    fun q => by rw [e q]; rfl
  have hN : nearest d = fun j => (Host.argReduce reducer_argmin_f32_i32 d (iotaInDim S18432x1024 32 1)
      (constant S_ .f32 0x7F800000#32) (constantI S_ 32 0#32) reducesTo_S18432x1024_S18432_d1 h_S_ j).2 := by
    delta nearest
    exact Eq.refl _
  exact argReduce_axis hm _ reducer_eq d _ _ _ hix hiy _ reduces_rows _ (ix1 i) hy k hk' (nearest d) hN

/-- A stage's indices, at row `i`. -/
theorem stageIdx_apply (r : FVec Ideal S18432x64 .f32) (C : FVec Ideal S1024x64 .f32) (i : Fin 18432) :
    stageIdx r C (ix1 i) = BitVec.ofNat 32 (pick (mat C) (mat r i)).val := by
  refine nearest_apply (dist r C) i _ ?_
  simp only [dist_apply]
  exact firstMin_spec _

/-- An index that names a codebook row is read as it is. -/
theorem wrapped_apply (ix : IVec S18432 32) (i : Fin 18432) (k : Fin 1024) (h : ix (ix1 i) = BitVec.ofNat 32 k.val) :
    wrapped ix (ix2 i 0) = BitVec.ofNat 32 k.val := by
  have hk := k.isLt
  have e : wrapped ix (ix2 i 0) = Scalar.select (IntOp.cmpi .slt (ix (ix1 i)) 0#32) (IntOp.addi (ix (ix1 i)) 1024#32) (ix (ix1 i)) := by
    pointwise [wrapped]
  rw [e, h, show IntOp.cmpi .slt (BitVec.ofNat 32 k.val) 0#32 = 0#1 from ?_]
  · rfl
  · have : (BitVec.ofNat 32 k.val).slt 0#32 = false := by
      simp [BitVec.slt, toInt_ofNat_lt (show k.val < 2147483648 by omega)]
    simp [IntOp.cmpi, this]

/-- The rows read at indices that name codebook rows are those rows. -/
theorem rows_apply (C : FVec Ideal S1024x64 .f32) (ix : IVec S18432 32) (i : Fin 18432) (j : Fin 64) (k : Fin 1024)
    (h : ix (ix1 i) = BitVec.ofNat 32 k.val) : rows C ix (ix2 i j) = C (ix2 k j) := by
  have hw := wrapped_apply ix i k h
  have hk := k.isLt
  have hg : Host.gather gather_S1024x64_S18432x1_S18432x64_1_0_n_n_0_1_164 C (wrapped ix) (ix2 i j) = C (ix2 k j) :=
    gather_rows gather_S1024x64_S18432x1_S18432x64_1_0_n_n_0_1_164.wf C (wrapped ix) i j k
      (by rw [hw, toInt_ofNat_lt (by omega)])
  have hlo : IntOp.cmpi .sge (BitVec.ofNat 32 k.val) 0#32 = 1#1 := by
    have : (0#32).sle (BitVec.ofNat 32 k.val) = true := by
      simp [BitVec.sle, toInt_ofNat_lt (show k.val < 2147483648 by omega)]
    simp [IntOp.cmpi, this]
  have hhi : IntOp.cmpi .sle (BitVec.ofNat 32 k.val) 1023#32 = 1#1 := by
    have : (BitVec.ofNat 32 k.val).sle 1023#32 = true := by
      simp [BitVec.sle, toInt_ofNat_lt (show k.val < 2147483648 by omega), show (1023#32).toInt = 1023 by decide]
      omega
    simp [IntOp.cmpi, this]
  unfold rows
  generalize Host.gather gather_S1024x64_S18432x1_S18432x64_1_0_n_n_0_1_164 C (wrapped ix) = G at hg ⊢
  generalize wrapped ix = W at hw ⊢
  pointwise []
  simp only [Finset.univ_unique, Finset.fold_singleton, Fin.default_eq_zero, hw, hg, hlo, hhi]
  rfl

/-- The rows a stage picks, entry by entry. -/
theorem stageRows_apply (r : FVec Ideal S18432x64 .f32) (C : FVec Ideal S1024x64 .f32) (i : Fin 18432) (j : Fin 64) :
    stageRows r C (ix2 i j) = mat C (pick (mat C) (mat r i)) j :=
  rows_apply C (stageIdx r C) i j _ (stageIdx_apply r C i)

/-- The residual a stage leaves, entry by entry. -/
theorem stageNext_apply (r : FVec Ideal S18432x64 .f32) (C : FVec Ideal S1024x64 .f32) (i : Fin 18432) (j : Fin 64) :
    stageNext r C (ix2 i j) = mat r i j - mat C (pick (mat C) (mat r i)) j := by
  have e : stageNext r C (ix2 i j) = r (ix2 i j) - stageRows r C (ix2 i j) := rfl
  rw [e, stageRows_apply]

/-- The sum of a stage's squared errors, row by row. -/
theorem sqErr_apply (r : FVec Ideal S18432x64 .f32) (C : FVec Ideal S1024x64 .f32) :
    sqErr (stageRows r C) r ix0 = ∑ i, rowErr (mat C) (mat r i) := by
  have e : ∀ q r : FVec Ideal S18432x64 .f32, sqErr q r ix0
      = ∑ i, ∑ j, (q (ix2 i j) - r (ix2 i j)) * (q (ix2 i j) - r (ix2 i j)) := fun q r => by pointwise [sqErr]
  rw [e]
  simp only [stageRows_apply, rowErr]

end Cert.Proof.RI

end
-- ==== Proof.KI.Glue.lean ====
/-
  What the host computes around a stage, and a stage's results in the reference's terms.

  Before a stage the host squares and sums the rows and the codebook rows, and takes the stage's codebook in both forms:
  that is what a stage asks of its five arrays (`stageIn`). After it, it flattens the indices and adds a quarter of the mean
  squared error to the loss. What the stage leaves is then what the reference computes (`Left`, `left_of`).
-/
module

public import proofs.«01_k».proof.Proof.KI.Stage
public import proofs.«01_k».proof.Proof.KI.Split
public import proofs.«01_k».proof.Proof.RI.Run
public import proofs.«01_k».proof.Proof.RI.Pick
public import Idealize.ShloMosaic.Lib.Pipeline.Value
public import Idealize.ShloMosaic.Lib.Pointwise

@[expose] public section

noncomputable section

namespace Cert.Proof.KI

open Cert.KernelIdeal Cert.KernelIdeal.Gen Cert.Proof.Math
open Idealize.ShloMosaic Idealize.ShloMosaic.TcCoe Idealize.SL.Sem

variable (r : FVec Ideal S18432x64 .f32) (C : FVec Ideal S1024x64 .f32)

/-- The squared norms of the rows, as a column. -/
def rowNorms : FVec Ideal S18432x1 .f32 :=
  broadcastInDim S18432x1 ![0] bcast_S18432_S18432x1_0
    (Host.reduceAdd (mulf r r) (constant S_ .f32 0x00000000#32) reducesTo_S18432x64_S18432_d1 h_S_)

/-- The squared norms of the codebook's rows. -/
def bookNorms : FVec Ideal S1x1x1024 .f32 :=
  shapeCast S1x1x1024
    (Host.reduceAdd (mulf C C) (constant S_ .f32 0x00000000#32) reducesTo_S1024x64_S1024_d1 h_S_) shapeCasts_S1024_S1x1x1024

/-- The codebooks in the shape the split call reads. -/
def regroup (cb : FVec Ideal S4x1024x64 .f32) : FVec Ideal S4x256x256 .f32 :=
  shapeCast S4x256x256 cb shapeCasts_S4x1024x64_S4x256x256

/-- The indices as one vector. -/
def flatIdx (i : IVec S18x1x1024 32) : IVec S18432 32 := shapeCast S18432 i shapeCasts_S18x1x1024_S18432

/-- The loss so far, and a quarter of the mean of a stage's squared errors. -/
def addMean (l : FVec Ideal S_ .f32) (e : FVec Ideal S1x1 .f32) : FVec Ideal S_ .f32 :=
  addf l (mulf (constant S_ .f32 0x3E800000#32)
    (Host.divf (shapeCast S_ e shapeCasts_S1x1_S_) (constant S_ .f32 0x49900000#32)))

theorem rowNorms_apply (i : Fin 18432) : rowNorms r (ix2 i 0) = ∑ x, mat r i x * mat r i x := by
  pointwise [rowNorms, mat]

theorem bookNorms_apply (k : Fin 1024) : bookNorms C (ix3 0 0 k) = ∑ x, mat C k x * mat C k x := by
  pointwise [bookNorms, mat]

/-- What the host prepares is what a stage asks for, as soon as the codebooks' entries are finite. -/
theorem stageIn (k : Fin 4) (h : S4x1024x64.Slices ![k.val, 0, 0] S1x1024x64) (h' : S4x768x256.Slices ![k.val, 0, 0] S1x768x256)
    (cb : FVec Ideal S4x1024x64 .f32) (hfin : ∀ i, cb i - cb i = 0) :
    StageIn r (rowNorms r) (bookNorms (RI.book k.val h cb)) (RI.book k.val h cb) (grouped k.val h' (splitRows (regroup cb))) where
  row := rowNorms_apply r
  book := bookNorms_apply _
  layout := grouped_layout k h h' cb hfin

/-- A stage's results, in the reference's terms. -/
structure Left (zq rn : FVec Ideal S18432x64 .f32) (idx : IVec S18x1x1024 32) (e : FVec Ideal S1x1 .f32) : Prop where
  rows : zq = RI.stageRows r C
  next : rn = RI.stageNext r C
  idx : flatIdx idx = RI.stageIdx r C
  loss : ∀ l, addMean l e = RI.stageLoss l r C

theorem idx2_rows (y : S18432x64.Idx) : ∃ i j, y = ix2 i j :=
  ⟨y 0, y 1, funext fun a => by match a with | ⟨0, _⟩ => rfl | ⟨1, _⟩ => rfl⟩

theorem idx1_flat (y : S18432.Idx) : ∃ i, y = ix1 i :=
  ⟨y 0, funext fun a => by match a with | ⟨0, _⟩ => rfl⟩

theorem keptRows_eq : keptRows r C = RI.stageRows r C := funext fun y => by
  obtain ⟨i, j, rfl⟩ := idx2_rows y
  rw [RI.stageRows_apply]
  rfl

theorem nextRows_eq : nextRows r C = RI.stageNext r C := funext fun y => by
  obtain ⟨i, j, rfl⟩ := idx2_rows y
  rw [RI.stageNext_apply]
  rfl

theorem flatIdx_apply (A : IVec S18x1x1024 32) (n : Fin 18) (k : Fin 1024) :
    flatIdx A (ix1 (at18 n k)) = A (ix3 n 0 k) := by
  unfold flatIdx
  refine shapeCast_apply A shapeCasts_S18x1x1024_S18432 (ix1 (at18 n k)) (ix3 n 0 k) ?_
  rw [Shape.rowMajor_val_three, Shape.rowMajor_val_one]
  show (n.val * 1 + 0) * 1024 + k.val = 1024 * n.val + k.val
  omega

theorem keptIdx_eq : flatIdx (keptIdx r C) = RI.stageIdx r C := funext fun y => by
  obtain ⟨i, rfl⟩ := idx1_flat y
  obtain ⟨n, k, rfl⟩ : ∃ n k, i = at18 n k := ⟨⟨i.val / 1024, by omega⟩, ⟨i.val % 1024, by omega⟩, Fin.ext (by
    show i.val = 1024 * (i.val / 1024) + i.val % 1024
    omega)⟩
  rw [RI.stageIdx_apply, flatIdx_apply, keptIdx_apply]

theorem sum_eq : shapeCast S_ (keptLoss r C) shapeCasts_S1x1_S_ = RI.sqErr (RI.stageRows r C) r := funext fun y => by
  obtain rfl : y = ix0 := funext fun a => a.elim0
  rw [RI.sqErr_apply]
  rfl

theorem keptLoss_eq (l : FVec Ideal S_ .f32) : addMean l (keptLoss r C) = RI.stageLoss l r C := by
  unfold addMean RI.stageLoss
  rw [sum_eq]
  rfl

/-- What a stage leaves is what the reference computes. -/
theorem left_of {zq rn : FVec Ideal S18432x64 .f32} {idx : IVec S18x1x1024 32} {e : FVec Ideal S1x1 .f32}
    (h : StageOut r C zq rn idx e) : Left r C zq rn idx e := by
  obtain ⟨rfl, rfl, rfl, rfl⟩ := h
  exact ⟨keptRows_eq r C, nextRows_eq r C, keptIdx_eq r C, keptLoss_eq r C⟩

/-- A sum that starts from zeros starts from its first term. -/
theorem zeros_add (x : FVec Ideal S18432x64 .f32) :
    addf (broadcastInDim S18432x64 ![] ReferenceIdeal.Gen.bcast_S_S18432x64 (constant (F := Ideal) S_ .f32 0x00000000#32)) x = x :=
  funext fun y => by
    obtain ⟨i, j, rfl⟩ := idx2_rows y
    pointwise []

end Cert.Proof.KI

end
-- ==== Proof.KI.Hosts.lean ====
/-
  What each stretch of host operations leaves, from the contents before it.

  The stretch before a stage leaves the stage's four prepared arrays (`Prepared`); the stretch after it leaves the loss, the
  indices and, from the second stage on, the reconstruction.
-/
module

public import proofs.«01_k».proof.Proof.KI.Glue
public import proofs.«01_k».proof.Proof.Gen.KernelIdeal.Frame.Hosts0
public import Idealize.ShloMosaic.Lib.StableHlo.RunRead

@[expose] public section

set_option maxRecDepth 16384

noncomputable section

namespace Cert.Proof.KI

open Cert.KernelIdeal Cert.KernelIdeal.Gen Cert.Proof.Math
open Idealize.ShloMosaic Idealize.ShloMosaic.TcCoe Idealize.ShloMosaic.StableHlo Idealize.SL.Sem

variable (U : Valuation τ sig (Elt Ideal))

/-- The arrays prepared for a stage: the rows' norms, the codebook's norms, the codebook, and the grouped codebook. -/
structure Prepared (k : ℕ) (h : S4x1024x64.Slices ![k, 0, 0] S1x1024x64) (h' : S4x768x256.Slices ![k, 0, 0] S1x768x256)
    (r : FVec Ideal S18432x64 .f32) (cb : FVec Ideal S4x1024x64 .f32) (g : FVec Ideal S4x768x256 .f32)
    (r2 : FVec Ideal S18432x1 .f32) (c2 : FVec Ideal S1x1x1024 .f32) (C : FVec Ideal S1024x64 .f32)
    (G : FVec Ideal S768x256 .f32) : Prop where
  rows : r2 = rowNorms r
  norms : c2 = bookNorms (RI.book k h cb)
  book : C = RI.book k h cb
  group : G = grouped k h' g

/-- The opening leaves the input as rows, and the codebooks in the split call's shape. -/
theorem open_reads :
    after hostOps0 U (main_v0 : DevRef τ sig) = RI.rows0 (F := Ideal) (U (main_arg0 : DevRef τ sig))
      ∧ after hostOps0 U (main_v1 : DevRef τ sig) = regroup (U (main_arg1 : DevRef τ sig)) := by
  refine ⟨?_, ?_⟩ <;> after_reads_simp
  · rfl
  · rfl

/-- What stage 1 is given. -/
theorem prepared1 : Prepared 0 slices_S4x1024x64_S1x1024x64_0_0_0 slices_S4x768x256_S1x768x256_0_0_0
    (U (main_v0 : DevRef τ sig)) (U (main_arg1 : DevRef τ sig)) (U (main_v2 : DevRef τ sig))
    (after hostOps1 U (main_v7 : DevRef τ sig)) (after hostOps1 U (main_v10 : DevRef τ sig))
    (after hostOps1 U (main_v4 : DevRef τ sig)) (after hostOps1 U (main_v12 : DevRef τ sig)) := by
  refine ⟨?_, ?_, ?_, ?_⟩ <;> after_reads_simp
  all_goals rfl

/-- What stage 2 is given. -/
theorem prepared2 : Prepared 1 slices_S4x1024x64_S1x1024x64_1_0_0 slices_S4x768x256_S1x768x256_1_0_0
    (U (main_v13_1 : DevRef τ sig)) (U (main_arg1 : DevRef τ sig)) (U (main_v2 : DevRef τ sig))
    (after hostOps2 U (main_v23 : DevRef τ sig)) (after hostOps2 U (main_v26 : DevRef τ sig))
    (after hostOps2 U (main_v20 : DevRef τ sig)) (after hostOps2 U (main_v28 : DevRef τ sig)) := by
  refine ⟨?_, ?_, ?_, ?_⟩ <;> after_reads_simp
  all_goals rfl

/-- What stage 3 is given. -/
theorem prepared3 : Prepared 2 slices_S4x1024x64_S1x1024x64_2_0_0 slices_S4x768x256_S1x768x256_2_0_0
    (U (main_v29_1 : DevRef τ sig)) (U (main_arg1 : DevRef τ sig)) (U (main_v2 : DevRef τ sig))
    (after hostOps3 U (main_v40 : DevRef τ sig)) (after hostOps3 U (main_v43 : DevRef τ sig))
    (after hostOps3 U (main_v37 : DevRef τ sig)) (after hostOps3 U (main_v45 : DevRef τ sig)) := by
  refine ⟨?_, ?_, ?_, ?_⟩ <;> after_reads_simp
  all_goals rfl

/-- What stage 4 is given. -/
theorem prepared4 : Prepared 3 slices_S4x1024x64_S1x1024x64_3_0_0 slices_S4x768x256_S1x768x256_3_0_0
    (U (main_v46_1 : DevRef τ sig)) (U (main_arg1 : DevRef τ sig)) (U (main_v2 : DevRef τ sig))
    (after hostOps4 U (main_v57 : DevRef τ sig)) (after hostOps4 U (main_v60 : DevRef τ sig))
    (after hostOps4 U (main_v54 : DevRef τ sig)) (after hostOps4 U (main_v62 : DevRef τ sig)) := by
  refine ⟨?_, ?_, ?_, ?_⟩ <;> after_reads_simp
  all_goals rfl

/-- After stage 1: the loss and the indices. -/
theorem closed1 : after hostOps2 U (main_v17 : DevRef τ sig) = addMean (constant S_ .f32 0x00000000#32) (U (main_v13_3 : DevRef τ sig))
      ∧ after hostOps2 U (main_v18 : DevRef τ sig) = flatIdx (U (main_v13_2 : DevRef τ sig)) := by
  refine ⟨?_, ?_⟩ <;> after_reads_simp
  all_goals rfl

/-- After stage 2: the loss, the indices and the reconstruction. -/
theorem closed2 : after hostOps3 U (main_v33 : DevRef τ sig) = addMean (U (main_v17 : DevRef τ sig)) (U (main_v29_3 : DevRef τ sig))
      ∧ after hostOps3 U (main_v34 : DevRef τ sig) = flatIdx (U (main_v29_2 : DevRef τ sig))
      ∧ after hostOps3 U (main_v35 : DevRef τ sig)
        = (addf (F := Ideal) (U (main_v13_0 : DevRef τ sig)) (U (main_v29_0 : DevRef τ sig)) : FVec Ideal S18432x64 .f32) := by
  refine ⟨?_, ?_, ?_⟩ <;> after_reads_simp
  all_goals rfl

/-- After stage 3: the loss, the indices and the reconstruction. -/
theorem closed3 : after hostOps4 U (main_v50 : DevRef τ sig) = addMean (U (main_v33 : DevRef τ sig)) (U (main_v46_3 : DevRef τ sig))
      ∧ after hostOps4 U (main_v51 : DevRef τ sig) = flatIdx (U (main_v46_2 : DevRef τ sig))
      ∧ after hostOps4 U (main_v52 : DevRef τ sig)
        = (addf (F := Ideal) (U (main_v35 : DevRef τ sig)) (U (main_v46_0 : DevRef τ sig)) : FVec Ideal S18432x64 .f32) := by
  refine ⟨?_, ?_, ?_⟩ <;> after_reads_simp
  all_goals rfl

/-- After stage 4: the loss, the indices and the reconstruction. -/
theorem closed4 : after hostOps5 U (main_v67 : DevRef τ sig) = addMean (U (main_v50 : DevRef τ sig)) (U (main_v63_3 : DevRef τ sig))
      ∧ after hostOps5 U (main_v68 : DevRef τ sig) = flatIdx (U (main_v63_2 : DevRef τ sig))
      ∧ after hostOps5 U (main_v69 : DevRef τ sig)
        = (addf (F := Ideal) (U (main_v52 : DevRef τ sig)) (U (main_v63_0 : DevRef τ sig)) : FVec Ideal S18432x64 .f32) := by
  refine ⟨?_, ?_, ?_⟩ <;> after_reads_simp
  all_goals rfl

/-- The close adds to the input the reconstruction less the input. -/
theorem close_read : after hostOps5 U (main_v72 : DevRef τ sig)
    = (shapeCast S32x576x64 (addf (F := Ideal) (U (main_v0 : DevRef τ sig))
        (subf (addf (F := Ideal) (U (main_v52 : DevRef τ sig)) (U (main_v63_0 : DevRef τ sig))) (U (main_v0 : DevRef τ sig))))
        shapeCasts_S18432x64_S32x576x64 : FVec Ideal S32x576x64 .f32) := by
  after_reads_simp
  all_goals rfl

end Cert.Proof.KI

end
-- ==== Proof.KI.Stage1.lean ====
/-
  What stage 1 leaves in its result arrays.

  Its steps are those `Steps` states, so its four result arrays hold what `StageOut` says.
-/
module

public import proofs.«01_k».proof.Proof.KI.Stage

@[expose] public section

noncomputable section

namespace Cert.Proof.KI

open Cert.KernelIdeal Cert.KernelIdeal.Gen Cert.Proof.Math
open Idealize.ShloMosaic Idealize.ShloMosaic.TcCoe Idealize.SL.Sem

section Steps
variable {F : FTy → Type} [FloatOps F]
variable (V : (c : Dev nD) → (b : Ref sig .tc) → Buf (Elt F) ((c : Thread nD τ).loc b)) (c : Dev nD)

theorem rowsIn1 (t : Fin cfg1.N) : iblk1 V c 0 t = rowBlock (V c main_v0) (pt t) :=
  funext fun j => congrArg (V c main_v0) (emb_rows t j)

theorem normsIn1 (t : Fin cfg1.N) : iblk1 V c 1 t = rowBlock (V c main_v7) (pt t) :=
  funext fun j => congrArg (V c main_v7) (emb_norms t j)

theorem bookNormsIn1 (t : Fin cfg1.N) : iblk1 V c 2 t = V c main_v10 :=
  funext fun j => congrArg (V c main_v10) (emb_bookNorms t j)

theorem bookIn1 (t : Fin cfg1.N) : iblk1 V c 3 t = V c main_v4 :=
  funext fun j => congrArg (V c main_v4) (emb_book t j)

theorem groupedIn1 (t : Fin cfg1.N) : iblk1 V c 4 t = V c main_v12 :=
  funext fun j => congrArg (V c main_v12) (emb_grouped t j)

theorem steps1 : Steps (outsAt1 V c) (V c main_v0) (V c main_v7) (V c main_v10) (V c main_v4) (V c main_v12) where
  first h := by
    let t : Fin cfg1.N := ⟨0, h⟩
    refine (outsAt1_A V c t rfl).trans ((first_out c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t)
      (iblk1 V c 0 t) (iblk1 V c 1 t) (iblk1 V c 2 t) (iblk1 V c 3 t) (iblk1 V c 4 t) ((hcond1_0 t).mpr rfl)).trans ?_)
    exact stored_congr (rowsIn1 V c t) (normsIn1 V c t) (bookNormsIn1 V c t) (bookIn1 V c t) (groupedIn1 V c t) rfl
  later n h := by
    let t : Fin cfg1.N := ⟨n + 1, h⟩
    have h0 : ¬t.val % 18 = 0 := by have := lt18 t; show ¬(n + 1) % 18 = 0; have : n + 1 < 18 := this; omega
    refine (outsAt1_B V c t h0).trans ((later_out c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t)
      (iblk1 V c 0 t) (iblk1 V c 1 t) (iblk1 V c 2 t) (iblk1 V c 3 t) (iblk1 V c 4 t) _ (fun h => h0 ((hcond1_0 t).mp h))).trans ?_)
    exact stored_congr (rowsIn1 V c t) (normsIn1 V c t) (bookNormsIn1 V c t) (bookIn1 V c t) (groupedIn1 V c t) rfl

theorem rowsOut1 (A : Vec F S18432x64 .f32) (t : Fin cfg1.N) :
    rowBlock A (pt t) = ((cfg1.win 5).blk t).view.read (Elt F) A :=
  funext fun j => congrArg A (emb_rows t j).symm

theorem nextOut1 (A : Vec F S18432x64 .f32) (t : Fin cfg1.N) :
    rowBlock A (pt t) = ((cfg1.win 6).blk t).view.read (Elt F) A :=
  funext fun j => congrArg A (emb_rows t j).symm

theorem idxOut1 (A : Vec F S18x1x1024 .i32) (t : Fin cfg1.N) :
    (fun j => A (ix3 (pt t) (j 1) (j 2))) = ((cfg1.win 7).blk t).view.read (Elt F) A :=
  funext fun j => congrArg A (emb_idx t j).symm

theorem lossOut1 (A : Vec F S1x1 .f32) (t : Fin cfg1.N) : A = ((cfg1.win 8).blk t).view.read (Elt F) A :=
  funext fun j => congrArg A (emb_loss t j).symm

end Steps

theorem rows1 (V : (c : Dev nD) → (b : Ref sig .tc) → Buf (Elt Ideal) ((c : Thread nD τ).loc b)) (c : Dev nD)
    (h : StageIn (V c main_v0) (V c main_v7) (V c main_v10) (V c main_v4) (V c main_v12)) :
    (dat1 V c).arrAt 5 cfg1.N = keptRows (V c main_v0) (V c main_v4) :=
  (dat1 V c).arrAt_eq_of_cover 5 (keptRows (V c main_v0) (V c main_v4))
    (fun t _ => ((after1_5 V c t).trans ((steps1 V c).rows h t)).trans (rowsOut1 (F := Ideal) (keptRows (V c main_v0) (V c main_v4)) t))
    fun i => (cover_rows i).imp fun t ht => ⟨flush1_5 t, by
      rw [show ((cfg1.win 5).blk t).view.set = _ from View.set_slice_whole ..]; exact ht⟩

theorem next1 (V : (c : Dev nD) → (b : Ref sig .tc) → Buf (Elt Ideal) ((c : Thread nD τ).loc b)) (c : Dev nD)
    (h : StageIn (V c main_v0) (V c main_v7) (V c main_v10) (V c main_v4) (V c main_v12)) :
    (dat1 V c).arrAt 6 cfg1.N = nextRows (V c main_v0) (V c main_v4) :=
  (dat1 V c).arrAt_eq_of_cover 6 (nextRows (V c main_v0) (V c main_v4))
    (fun t _ => ((after1_6 V c t).trans ((steps1 V c).next h t)).trans (nextOut1 (F := Ideal) (nextRows (V c main_v0) (V c main_v4)) t))
    fun i => (cover_rows i).imp fun t ht => ⟨flush1_6 t, by
      rw [show ((cfg1.win 6).blk t).view.set = _ from View.set_slice_whole ..]; exact ht⟩

theorem idx1 (V : (c : Dev nD) → (b : Ref sig .tc) → Buf (Elt Ideal) ((c : Thread nD τ).loc b)) (c : Dev nD)
    (h : StageIn (V c main_v0) (V c main_v7) (V c main_v10) (V c main_v4) (V c main_v12)) :
    (dat1 V c).arrAt 7 cfg1.N = keptIdx (V c main_v0) (V c main_v4) :=
  (dat1 V c).arrAt_eq_of_cover 7 (keptIdx (V c main_v0) (V c main_v4))
    (fun t _ => ((after1_7 V c t).trans ((steps1 V c).idx h t)).trans (idxOut1 (F := Ideal) (keptIdx (V c main_v0) (V c main_v4)) t))
    fun i => (cover_idx i).imp fun t ht => ⟨flush1_7 t, by
      rw [show ((cfg1.win 7).blk t).view.set = _ from View.set_slice_whole ..]; exact ht⟩

theorem loss1 (V : (c : Dev nD) → (b : Ref sig .tc) → Buf (Elt Ideal) ((c : Thread nD τ).loc b)) (c : Dev nD)
    (h : StageIn (V c main_v0) (V c main_v7) (V c main_v10) (V c main_v4) (V c main_v12)) :
    (dat1 V c).arrAt 8 cfg1.N = keptLoss (V c main_v0) (V c main_v4) :=
  (dat1 V c).arrAt_eq_of_cover 8 (keptLoss (V c main_v0) (V c main_v4))
    (fun t ht => ((after1_8 V c t).trans ((steps1 V c).loss h t ((flush1_8 t).mp ht))).trans (lossOut1 (F := Ideal) (keptLoss (V c main_v0) (V c main_v4)) t))
    fun i => ⟨point 17 (by omega), (flush1_8 _).mpr rfl, by
      rw [show ((cfg1.win 8).blk _).view.set = _ from View.set_slice_whole ..]; exact cover_loss i (point 17 (by omega))⟩

theorem stage1 (V : (c : Dev nD) → (b : Ref sig .tc) → Buf (Elt Ideal) ((c : Thread nD τ).loc b)) (c : Dev nD)
    (h : StageIn (V c main_v0) (V c main_v7) (V c main_v10) (V c main_v4) (V c main_v12)) :
    StageOut (V c main_v0) (V c main_v4) ((dat1 V c).arrAt 5 cfg1.N) ((dat1 V c).arrAt 6 cfg1.N)
      ((dat1 V c).arrAt 7 cfg1.N) ((dat1 V c).arrAt 8 cfg1.N) :=
  ⟨rows1 V c h, next1 V c h, idx1 V c h, loss1 V c h⟩

end Cert.Proof.KI

end
-- ==== Proof.KI.Body2.lean ====
/-
  What the body of stage 2's kernel leaves in its output blocks.

  The stages run one body, so its outputs are the first stage's, already read off.
-/
module

public import proofs.«01_k».proof.Proof.KI.Stage

@[expose] public section

noncomputable section

namespace Cert.Proof.KI

open Cert.KernelIdeal Cert.KernelIdeal.Gen Cert.Proof.Math
open Idealize.ShloMosaic Idealize.ShloMosaic.TcCoe Idealize.SL.Sem

variable {F : FTy → Type} [FloatOps F]

theorem same2_A_5 : @out2_A_5 F _ = @out1_A_5 F _ := rfl
theorem same2_A_6 : @out2_A_6 F _ = @out1_A_6 F _ := rfl
theorem same2_A_8 : @out2_A_8 F _ = @out1_A_8 F _ := rfl
theorem same2_B_5 : @out2_B_5 F _ = @out1_B_5 F _ := rfl
theorem same2_B_6 : @out2_B_6 F _ = @out1_B_6 F _ := rfl
theorem same2_B_8 : @out2_B_8 F _ = @out1_B_8 F _ := rfl

theorem masked2 : @k2_pay4 F _ = @k1_pay4 F _ := rfl

/-- The row numbers the stage stores are those the first stage stores. -/
theorem numbers2 (r : Vec F S1024x64 .f32) (r2 : Vec F S1024x1 .f32) (c2 : Vec F S1x1x1024 .f32) (C : Vec F S1024x64 .f32) :
    k2_pay1 (k2_pay6 r r2 c2 C) = idxBlock r r2 c2 C := by
  unfold k2_pay6
  rw [masked2]
  rfl

section Runs
variable (c : Dev nD) (i : grid2.Coords)
  (a1 : Memref sig .tc .vmem S1024x64 .f32) (h1 : a1.IsWhole) (a2 : Memref sig .tc .vmem S1024x1 .f32) (h2 : a2.IsWhole)
  (a3 : Memref sig .tc .vmem S1x1x1024 .f32) (h3 : a3.IsWhole) (a4 : Memref sig .tc .vmem S1024x64 .f32) (h4 : a4.IsWhole)
  (a5 : Memref sig .tc .vmem S768x256 .f32) (h5 : a5.IsWhole) (a6 : Memref sig .tc .vmem S1024x64 .f32) (h6 : a6.IsWhole)
  (a7 : Memref sig .tc .vmem S1024x64 .f32) (h7 : a7.IsWhole) (a8 : Memref sig .tc .vmem S1x1x1024 .i32) (h8 : a8.IsWhole)
  (a9 : Memref sig .tc .smem S1x1 .f32) (h9 : a9.IsWhole)
  (r : Vec F S1024x64 .f32) (r2 : Vec F S1024x1 .f32) (c2 : Vec F S1x1x1024 .f32) (C : Vec F S1024x64 .f32)
  (G : Vec F S768x256 .f32) (l : Vec F S1x1 .f32)

theorem first_idx2 (hc : cond2_0 i) : out2_A_7 c i a1 h1 a2 h2 a3 h3 a4 h4 a5 h5 a6 h6 a7 h7 a8 h8 a9 h9 hc r r2 c2 C G
    = idxBlock r r2 c2 C := by
  unfold out2_A_7
  rw [View.read_writes_eq_canon _ _ _ (cover2_A_7 c i a1 h1 a2 h2 a3 h3 a4 h4 a5 h5 a6 h6 a7 h7 a8 h8 a9 h9 hc r r2 c2 C G)]
  unfold kernelRun2_A
  dsimp only
  sl_unfold_words
  rw [View.canon_cons_unit_zero (S := S1x1x1024) zeros3]
  simp only [View.readAt_eq_ld, h1.read_unread, h2.read_unread, h3.read_unread, h4.read_unread,
    View.ld_unit_zero (S := S1024x64) zeros2, View.ld_unit_zero (S := S1024x1) zeros2, View.ld_unit_zero (S := S1x1x1024) zeros3]
  exact numbers2 r r2 c2 C

theorem later_idx2 (hc : ¬cond2_0 i) : out2_B_7 c i a1 h1 a2 h2 a3 h3 a4 h4 a5 h5 a6 h6 a7 h7 a8 h8 a9 h9 hc r r2 c2 C G l
    = idxBlock r r2 c2 C := by
  unfold out2_B_7
  rw [View.read_writes_eq_canon _ _ _ (cover2_B_7 c i a1 h1 a2 h2 a3 h3 a4 h4 a5 h5 a6 h6 a7 h7 a8 h8 a9 h9 hc r r2 c2 C G l)]
  unfold kernelRun2_B
  dsimp only
  sl_unfold_words
  rw [View.canon_cons_unit_zero (S := S1x1x1024) zeros3]
  simp only [View.readAt_eq_ld, h1.read_unread, h2.read_unread, h3.read_unread, h4.read_unread,
    View.ld_unit_zero (S := S1024x64) zeros2, View.ld_unit_zero (S := S1024x1) zeros2, View.ld_unit_zero (S := S1x1x1024) zeros3]
  exact numbers2 r r2 c2 C

/-- The four outputs of the first point. -/
theorem first_out2 (hc : cond2_0 i) : (out2_A_5 c i a1 h1 a2 h2 a3 h3 a4 h4 a5 h5 a6 h6 a7 h7 a8 h8 a9 h9 hc r r2 c2 C G,
      out2_A_6 c i a1 h1 a2 h2 a3 h3 a4 h4 a5 h5 a6 h6 a7 h7 a8 h8 a9 h9 hc r r2 c2 C G,
      out2_A_7 c i a1 h1 a2 h2 a3 h3 a4 h4 a5 h5 a6 h6 a7 h7 a8 h8 a9 h9 hc r r2 c2 C G,
      out2_A_8 c i a1 h1 a2 h2 a3 h3 a4 h4 a5 h5 a6 h6 a7 h7 a8 h8 a9 h9 hc r r2 c2 C G)
    = stored r r2 c2 C G (Scalar.ofBits .f32 0x00000000#32) := by
  rw [first_idx2, same2_A_5, same2_A_6, same2_A_8, first_rows, first_next, first_loss, stored]

/-- The four outputs of a later point. -/
theorem later_out2 (hc : ¬cond2_0 i) : (out2_B_5 c i a1 h1 a2 h2 a3 h3 a4 h4 a5 h5 a6 h6 a7 h7 a8 h8 a9 h9 hc r r2 c2 C G l,
      out2_B_6 c i a1 h1 a2 h2 a3 h3 a4 h4 a5 h5 a6 h6 a7 h7 a8 h8 a9 h9 hc r r2 c2 C G l,
      out2_B_7 c i a1 h1 a2 h2 a3 h3 a4 h4 a5 h5 a6 h6 a7 h7 a8 h8 a9 h9 hc r r2 c2 C G l,
      out2_B_8 c i a1 h1 a2 h2 a3 h3 a4 h4 a5 h5 a6 h6 a7 h7 a8 h8 a9 h9 hc r r2 c2 C G l)
    = stored r r2 c2 C G (l (ix2 0 0)) := by
  rw [later_idx2, same2_B_5, same2_B_6, same2_B_8, later_rows, later_next, later_loss, stored]

end Runs

end Cert.Proof.KI

end
-- ==== Proof.KI.Stage2.lean ====
/-
  What stage 2 leaves in its result arrays.

  Its steps are those `Steps` states, so its four result arrays hold what `StageOut` says.
-/
module

public import proofs.«01_k».proof.Proof.KI.Body2

@[expose] public section

noncomputable section

namespace Cert.Proof.KI

open Cert.KernelIdeal Cert.KernelIdeal.Gen Cert.Proof.Math
open Idealize.ShloMosaic Idealize.ShloMosaic.TcCoe Idealize.SL.Sem

section Steps
variable {F : FTy → Type} [FloatOps F]
variable (V : (c : Dev nD) → (b : Ref sig .tc) → Buf (Elt F) ((c : Thread nD τ).loc b)) (c : Dev nD)

theorem rowsIn2 (t : Fin cfg2.N) : iblk2 V c 0 t = rowBlock (V c main_v13_1) (pt t) :=
  funext fun j => congrArg (V c main_v13_1) (emb_rows t j)

theorem normsIn2 (t : Fin cfg2.N) : iblk2 V c 1 t = rowBlock (V c main_v23) (pt t) :=
  funext fun j => congrArg (V c main_v23) (emb_norms t j)

theorem bookNormsIn2 (t : Fin cfg2.N) : iblk2 V c 2 t = V c main_v26 :=
  funext fun j => congrArg (V c main_v26) (emb_bookNorms t j)

theorem bookIn2 (t : Fin cfg2.N) : iblk2 V c 3 t = V c main_v20 :=
  funext fun j => congrArg (V c main_v20) (emb_book t j)

theorem groupedIn2 (t : Fin cfg2.N) : iblk2 V c 4 t = V c main_v28 :=
  funext fun j => congrArg (V c main_v28) (emb_grouped t j)

theorem steps2 : Steps (outsAt2 V c) (V c main_v13_1) (V c main_v23) (V c main_v26) (V c main_v20) (V c main_v28) where
  first h := by
    let t : Fin cfg2.N := ⟨0, h⟩
    refine (outsAt2_A V c t rfl).trans ((first_out2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t)
      (iblk2 V c 0 t) (iblk2 V c 1 t) (iblk2 V c 2 t) (iblk2 V c 3 t) (iblk2 V c 4 t) ((hcond2_0 t).mpr rfl)).trans ?_)
    exact stored_congr (rowsIn2 V c t) (normsIn2 V c t) (bookNormsIn2 V c t) (bookIn2 V c t) (groupedIn2 V c t) rfl
  later n h := by
    let t : Fin cfg2.N := ⟨n + 1, h⟩
    have h0 : ¬t.val % 18 = 0 := by have := lt18 t; show ¬(n + 1) % 18 = 0; have : n + 1 < 18 := this; omega
    refine (outsAt2_B V c t h0).trans ((later_out2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t)
      (iblk2 V c 0 t) (iblk2 V c 1 t) (iblk2 V c 2 t) (iblk2 V c 3 t) (iblk2 V c 4 t) _ (fun h => h0 ((hcond2_0 t).mp h))).trans ?_)
    exact stored_congr (rowsIn2 V c t) (normsIn2 V c t) (bookNormsIn2 V c t) (bookIn2 V c t) (groupedIn2 V c t) rfl

theorem rowsOut2 (A : Vec F S18432x64 .f32) (t : Fin cfg2.N) :
    rowBlock A (pt t) = ((cfg2.win 5).blk t).view.read (Elt F) A :=
  funext fun j => congrArg A (emb_rows t j).symm

theorem nextOut2 (A : Vec F S18432x64 .f32) (t : Fin cfg2.N) :
    rowBlock A (pt t) = ((cfg2.win 6).blk t).view.read (Elt F) A :=
  funext fun j => congrArg A (emb_rows t j).symm

theorem idxOut2 (A : Vec F S18x1x1024 .i32) (t : Fin cfg2.N) :
    (fun j => A (ix3 (pt t) (j 1) (j 2))) = ((cfg2.win 7).blk t).view.read (Elt F) A :=
  funext fun j => congrArg A (emb_idx t j).symm

theorem lossOut2 (A : Vec F S1x1 .f32) (t : Fin cfg2.N) : A = ((cfg2.win 8).blk t).view.read (Elt F) A :=
  funext fun j => congrArg A (emb_loss t j).symm

end Steps

theorem rows2 (V : (c : Dev nD) → (b : Ref sig .tc) → Buf (Elt Ideal) ((c : Thread nD τ).loc b)) (c : Dev nD)
    (h : StageIn (V c main_v13_1) (V c main_v23) (V c main_v26) (V c main_v20) (V c main_v28)) :
    (dat2 V c).arrAt 5 cfg2.N = keptRows (V c main_v13_1) (V c main_v20) :=
  (dat2 V c).arrAt_eq_of_cover 5 (keptRows (V c main_v13_1) (V c main_v20))
    (fun t _ => ((after2_5 V c t).trans ((steps2 V c).rows h t)).trans (rowsOut2 (F := Ideal) (keptRows (V c main_v13_1) (V c main_v20)) t))
    fun i => (cover_rows i).imp fun t ht => ⟨flush2_5 t, by
      rw [show ((cfg2.win 5).blk t).view.set = _ from View.set_slice_whole ..]; exact ht⟩

theorem next2 (V : (c : Dev nD) → (b : Ref sig .tc) → Buf (Elt Ideal) ((c : Thread nD τ).loc b)) (c : Dev nD)
    (h : StageIn (V c main_v13_1) (V c main_v23) (V c main_v26) (V c main_v20) (V c main_v28)) :
    (dat2 V c).arrAt 6 cfg2.N = nextRows (V c main_v13_1) (V c main_v20) :=
  (dat2 V c).arrAt_eq_of_cover 6 (nextRows (V c main_v13_1) (V c main_v20))
    (fun t _ => ((after2_6 V c t).trans ((steps2 V c).next h t)).trans (nextOut2 (F := Ideal) (nextRows (V c main_v13_1) (V c main_v20)) t))
    fun i => (cover_rows i).imp fun t ht => ⟨flush2_6 t, by
      rw [show ((cfg2.win 6).blk t).view.set = _ from View.set_slice_whole ..]; exact ht⟩

theorem idx2 (V : (c : Dev nD) → (b : Ref sig .tc) → Buf (Elt Ideal) ((c : Thread nD τ).loc b)) (c : Dev nD)
    (h : StageIn (V c main_v13_1) (V c main_v23) (V c main_v26) (V c main_v20) (V c main_v28)) :
    (dat2 V c).arrAt 7 cfg2.N = keptIdx (V c main_v13_1) (V c main_v20) :=
  (dat2 V c).arrAt_eq_of_cover 7 (keptIdx (V c main_v13_1) (V c main_v20))
    (fun t _ => ((after2_7 V c t).trans ((steps2 V c).idx h t)).trans (idxOut2 (F := Ideal) (keptIdx (V c main_v13_1) (V c main_v20)) t))
    fun i => (cover_idx i).imp fun t ht => ⟨flush2_7 t, by
      rw [show ((cfg2.win 7).blk t).view.set = _ from View.set_slice_whole ..]; exact ht⟩

theorem loss2 (V : (c : Dev nD) → (b : Ref sig .tc) → Buf (Elt Ideal) ((c : Thread nD τ).loc b)) (c : Dev nD)
    (h : StageIn (V c main_v13_1) (V c main_v23) (V c main_v26) (V c main_v20) (V c main_v28)) :
    (dat2 V c).arrAt 8 cfg2.N = keptLoss (V c main_v13_1) (V c main_v20) :=
  (dat2 V c).arrAt_eq_of_cover 8 (keptLoss (V c main_v13_1) (V c main_v20))
    (fun t ht => ((after2_8 V c t).trans ((steps2 V c).loss h t ((flush2_8 t).mp ht))).trans (lossOut2 (F := Ideal) (keptLoss (V c main_v13_1) (V c main_v20)) t))
    fun i => ⟨point 17 (by omega), (flush2_8 _).mpr rfl, by
      rw [show ((cfg2.win 8).blk _).view.set = _ from View.set_slice_whole ..]; exact cover_loss i (point 17 (by omega))⟩

theorem stage2 (V : (c : Dev nD) → (b : Ref sig .tc) → Buf (Elt Ideal) ((c : Thread nD τ).loc b)) (c : Dev nD)
    (h : StageIn (V c main_v13_1) (V c main_v23) (V c main_v26) (V c main_v20) (V c main_v28)) :
    StageOut (V c main_v13_1) (V c main_v20) ((dat2 V c).arrAt 5 cfg2.N) ((dat2 V c).arrAt 6 cfg2.N)
      ((dat2 V c).arrAt 7 cfg2.N) ((dat2 V c).arrAt 8 cfg2.N) :=
  ⟨rows2 V c h, next2 V c h, idx2 V c h, loss2 V c h⟩

end Cert.Proof.KI

end
-- ==== Proof.KI.Body3.lean ====
/-
  What the body of stage 3's kernel leaves in its output blocks.

  The stages run one body, so its outputs are the first stage's, already read off.
-/
module

public import proofs.«01_k».proof.Proof.KI.Stage

@[expose] public section

noncomputable section

namespace Cert.Proof.KI

open Cert.KernelIdeal Cert.KernelIdeal.Gen Cert.Proof.Math
open Idealize.ShloMosaic Idealize.ShloMosaic.TcCoe Idealize.SL.Sem

variable {F : FTy → Type} [FloatOps F]

theorem same3_A_5 : @out3_A_5 F _ = @out1_A_5 F _ := rfl
theorem same3_A_6 : @out3_A_6 F _ = @out1_A_6 F _ := rfl
theorem same3_A_8 : @out3_A_8 F _ = @out1_A_8 F _ := rfl
theorem same3_B_5 : @out3_B_5 F _ = @out1_B_5 F _ := rfl
theorem same3_B_6 : @out3_B_6 F _ = @out1_B_6 F _ := rfl
theorem same3_B_8 : @out3_B_8 F _ = @out1_B_8 F _ := rfl

theorem masked3 : @k3_pay4 F _ = @k1_pay4 F _ := rfl

/-- The row numbers the stage stores are those the first stage stores. -/
theorem numbers3 (r : Vec F S1024x64 .f32) (r2 : Vec F S1024x1 .f32) (c2 : Vec F S1x1x1024 .f32) (C : Vec F S1024x64 .f32) :
    k3_pay1 (k3_pay6 r r2 c2 C) = idxBlock r r2 c2 C := by
  unfold k3_pay6
  rw [masked3]
  rfl

section Runs
variable (c : Dev nD) (i : grid3.Coords)
  (a1 : Memref sig .tc .vmem S1024x64 .f32) (h1 : a1.IsWhole) (a2 : Memref sig .tc .vmem S1024x1 .f32) (h2 : a2.IsWhole)
  (a3 : Memref sig .tc .vmem S1x1x1024 .f32) (h3 : a3.IsWhole) (a4 : Memref sig .tc .vmem S1024x64 .f32) (h4 : a4.IsWhole)
  (a5 : Memref sig .tc .vmem S768x256 .f32) (h5 : a5.IsWhole) (a6 : Memref sig .tc .vmem S1024x64 .f32) (h6 : a6.IsWhole)
  (a7 : Memref sig .tc .vmem S1024x64 .f32) (h7 : a7.IsWhole) (a8 : Memref sig .tc .vmem S1x1x1024 .i32) (h8 : a8.IsWhole)
  (a9 : Memref sig .tc .smem S1x1 .f32) (h9 : a9.IsWhole)
  (r : Vec F S1024x64 .f32) (r2 : Vec F S1024x1 .f32) (c2 : Vec F S1x1x1024 .f32) (C : Vec F S1024x64 .f32)
  (G : Vec F S768x256 .f32) (l : Vec F S1x1 .f32)

theorem first_idx3 (hc : cond3_0 i) : out3_A_7 c i a1 h1 a2 h2 a3 h3 a4 h4 a5 h5 a6 h6 a7 h7 a8 h8 a9 h9 hc r r2 c2 C G
    = idxBlock r r2 c2 C := by
  unfold out3_A_7
  rw [View.read_writes_eq_canon _ _ _ (cover3_A_7 c i a1 h1 a2 h2 a3 h3 a4 h4 a5 h5 a6 h6 a7 h7 a8 h8 a9 h9 hc r r2 c2 C G)]
  unfold kernelRun3_A
  dsimp only
  sl_unfold_words
  rw [View.canon_cons_unit_zero (S := S1x1x1024) zeros3]
  simp only [View.readAt_eq_ld, h1.read_unread, h2.read_unread, h3.read_unread, h4.read_unread,
    View.ld_unit_zero (S := S1024x64) zeros2, View.ld_unit_zero (S := S1024x1) zeros2, View.ld_unit_zero (S := S1x1x1024) zeros3]
  exact numbers3 r r2 c2 C

theorem later_idx3 (hc : ¬cond3_0 i) : out3_B_7 c i a1 h1 a2 h2 a3 h3 a4 h4 a5 h5 a6 h6 a7 h7 a8 h8 a9 h9 hc r r2 c2 C G l
    = idxBlock r r2 c2 C := by
  unfold out3_B_7
  rw [View.read_writes_eq_canon _ _ _ (cover3_B_7 c i a1 h1 a2 h2 a3 h3 a4 h4 a5 h5 a6 h6 a7 h7 a8 h8 a9 h9 hc r r2 c2 C G l)]
  unfold kernelRun3_B
  dsimp only
  sl_unfold_words
  rw [View.canon_cons_unit_zero (S := S1x1x1024) zeros3]
  simp only [View.readAt_eq_ld, h1.read_unread, h2.read_unread, h3.read_unread, h4.read_unread,
    View.ld_unit_zero (S := S1024x64) zeros2, View.ld_unit_zero (S := S1024x1) zeros2, View.ld_unit_zero (S := S1x1x1024) zeros3]
  exact numbers3 r r2 c2 C

/-- The four outputs of the first point. -/
theorem first_out3 (hc : cond3_0 i) : (out3_A_5 c i a1 h1 a2 h2 a3 h3 a4 h4 a5 h5 a6 h6 a7 h7 a8 h8 a9 h9 hc r r2 c2 C G,
      out3_A_6 c i a1 h1 a2 h2 a3 h3 a4 h4 a5 h5 a6 h6 a7 h7 a8 h8 a9 h9 hc r r2 c2 C G,
      out3_A_7 c i a1 h1 a2 h2 a3 h3 a4 h4 a5 h5 a6 h6 a7 h7 a8 h8 a9 h9 hc r r2 c2 C G,
      out3_A_8 c i a1 h1 a2 h2 a3 h3 a4 h4 a5 h5 a6 h6 a7 h7 a8 h8 a9 h9 hc r r2 c2 C G)
    = stored r r2 c2 C G (Scalar.ofBits .f32 0x00000000#32) := by
  rw [first_idx3, same3_A_5, same3_A_6, same3_A_8, first_rows, first_next, first_loss, stored]

/-- The four outputs of a later point. -/
theorem later_out3 (hc : ¬cond3_0 i) : (out3_B_5 c i a1 h1 a2 h2 a3 h3 a4 h4 a5 h5 a6 h6 a7 h7 a8 h8 a9 h9 hc r r2 c2 C G l,
      out3_B_6 c i a1 h1 a2 h2 a3 h3 a4 h4 a5 h5 a6 h6 a7 h7 a8 h8 a9 h9 hc r r2 c2 C G l,
      out3_B_7 c i a1 h1 a2 h2 a3 h3 a4 h4 a5 h5 a6 h6 a7 h7 a8 h8 a9 h9 hc r r2 c2 C G l,
      out3_B_8 c i a1 h1 a2 h2 a3 h3 a4 h4 a5 h5 a6 h6 a7 h7 a8 h8 a9 h9 hc r r2 c2 C G l)
    = stored r r2 c2 C G (l (ix2 0 0)) := by
  rw [later_idx3, same3_B_5, same3_B_6, same3_B_8, later_rows, later_next, later_loss, stored]

end Runs

end Cert.Proof.KI

end
-- ==== Proof.KI.Stage3.lean ====
/-
  What stage 3 leaves in its result arrays.

  Its steps are those `Steps` states, so its four result arrays hold what `StageOut` says.
-/
module

public import proofs.«01_k».proof.Proof.KI.Body3

@[expose] public section

noncomputable section

namespace Cert.Proof.KI

open Cert.KernelIdeal Cert.KernelIdeal.Gen Cert.Proof.Math
open Idealize.ShloMosaic Idealize.ShloMosaic.TcCoe Idealize.SL.Sem

section Steps
variable {F : FTy → Type} [FloatOps F]
variable (V : (c : Dev nD) → (b : Ref sig .tc) → Buf (Elt F) ((c : Thread nD τ).loc b)) (c : Dev nD)

theorem rowsIn3 (t : Fin cfg3.N) : iblk3 V c 0 t = rowBlock (V c main_v29_1) (pt t) :=
  funext fun j => congrArg (V c main_v29_1) (emb_rows t j)

theorem normsIn3 (t : Fin cfg3.N) : iblk3 V c 1 t = rowBlock (V c main_v40) (pt t) :=
  funext fun j => congrArg (V c main_v40) (emb_norms t j)

theorem bookNormsIn3 (t : Fin cfg3.N) : iblk3 V c 2 t = V c main_v43 :=
  funext fun j => congrArg (V c main_v43) (emb_bookNorms t j)

theorem bookIn3 (t : Fin cfg3.N) : iblk3 V c 3 t = V c main_v37 :=
  funext fun j => congrArg (V c main_v37) (emb_book t j)

theorem groupedIn3 (t : Fin cfg3.N) : iblk3 V c 4 t = V c main_v45 :=
  funext fun j => congrArg (V c main_v45) (emb_grouped t j)

theorem steps3 : Steps (outsAt3 V c) (V c main_v29_1) (V c main_v40) (V c main_v43) (V c main_v37) (V c main_v45) where
  first h := by
    let t : Fin cfg3.N := ⟨0, h⟩
    refine (outsAt3_A V c t rfl).trans ((first_out3 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t)
      (iblk3 V c 0 t) (iblk3 V c 1 t) (iblk3 V c 2 t) (iblk3 V c 3 t) (iblk3 V c 4 t) ((hcond3_0 t).mpr rfl)).trans ?_)
    exact stored_congr (rowsIn3 V c t) (normsIn3 V c t) (bookNormsIn3 V c t) (bookIn3 V c t) (groupedIn3 V c t) rfl
  later n h := by
    let t : Fin cfg3.N := ⟨n + 1, h⟩
    have h0 : ¬t.val % 18 = 0 := by have := lt18 t; show ¬(n + 1) % 18 = 0; have : n + 1 < 18 := this; omega
    refine (outsAt3_B V c t h0).trans ((later_out3 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t)
      (iblk3 V c 0 t) (iblk3 V c 1 t) (iblk3 V c 2 t) (iblk3 V c 3 t) (iblk3 V c 4 t) _ (fun h => h0 ((hcond3_0 t).mp h))).trans ?_)
    exact stored_congr (rowsIn3 V c t) (normsIn3 V c t) (bookNormsIn3 V c t) (bookIn3 V c t) (groupedIn3 V c t) rfl

theorem rowsOut3 (A : Vec F S18432x64 .f32) (t : Fin cfg3.N) :
    rowBlock A (pt t) = ((cfg3.win 5).blk t).view.read (Elt F) A :=
  funext fun j => congrArg A (emb_rows t j).symm

theorem nextOut3 (A : Vec F S18432x64 .f32) (t : Fin cfg3.N) :
    rowBlock A (pt t) = ((cfg3.win 6).blk t).view.read (Elt F) A :=
  funext fun j => congrArg A (emb_rows t j).symm

theorem idxOut3 (A : Vec F S18x1x1024 .i32) (t : Fin cfg3.N) :
    (fun j => A (ix3 (pt t) (j 1) (j 2))) = ((cfg3.win 7).blk t).view.read (Elt F) A :=
  funext fun j => congrArg A (emb_idx t j).symm

theorem lossOut3 (A : Vec F S1x1 .f32) (t : Fin cfg3.N) : A = ((cfg3.win 8).blk t).view.read (Elt F) A :=
  funext fun j => congrArg A (emb_loss t j).symm

end Steps

theorem rows3 (V : (c : Dev nD) → (b : Ref sig .tc) → Buf (Elt Ideal) ((c : Thread nD τ).loc b)) (c : Dev nD)
    (h : StageIn (V c main_v29_1) (V c main_v40) (V c main_v43) (V c main_v37) (V c main_v45)) :
    (dat3 V c).arrAt 5 cfg3.N = keptRows (V c main_v29_1) (V c main_v37) :=
  (dat3 V c).arrAt_eq_of_cover 5 (keptRows (V c main_v29_1) (V c main_v37))
    (fun t _ => ((after3_5 V c t).trans ((steps3 V c).rows h t)).trans (rowsOut3 (F := Ideal) (keptRows (V c main_v29_1) (V c main_v37)) t))
    fun i => (cover_rows i).imp fun t ht => ⟨flush3_5 t, by
      rw [show ((cfg3.win 5).blk t).view.set = _ from View.set_slice_whole ..]; exact ht⟩

theorem next3 (V : (c : Dev nD) → (b : Ref sig .tc) → Buf (Elt Ideal) ((c : Thread nD τ).loc b)) (c : Dev nD)
    (h : StageIn (V c main_v29_1) (V c main_v40) (V c main_v43) (V c main_v37) (V c main_v45)) :
    (dat3 V c).arrAt 6 cfg3.N = nextRows (V c main_v29_1) (V c main_v37) :=
  (dat3 V c).arrAt_eq_of_cover 6 (nextRows (V c main_v29_1) (V c main_v37))
    (fun t _ => ((after3_6 V c t).trans ((steps3 V c).next h t)).trans (nextOut3 (F := Ideal) (nextRows (V c main_v29_1) (V c main_v37)) t))
    fun i => (cover_rows i).imp fun t ht => ⟨flush3_6 t, by
      rw [show ((cfg3.win 6).blk t).view.set = _ from View.set_slice_whole ..]; exact ht⟩

theorem idx3 (V : (c : Dev nD) → (b : Ref sig .tc) → Buf (Elt Ideal) ((c : Thread nD τ).loc b)) (c : Dev nD)
    (h : StageIn (V c main_v29_1) (V c main_v40) (V c main_v43) (V c main_v37) (V c main_v45)) :
    (dat3 V c).arrAt 7 cfg3.N = keptIdx (V c main_v29_1) (V c main_v37) :=
  (dat3 V c).arrAt_eq_of_cover 7 (keptIdx (V c main_v29_1) (V c main_v37))
    (fun t _ => ((after3_7 V c t).trans ((steps3 V c).idx h t)).trans (idxOut3 (F := Ideal) (keptIdx (V c main_v29_1) (V c main_v37)) t))
    fun i => (cover_idx i).imp fun t ht => ⟨flush3_7 t, by
      rw [show ((cfg3.win 7).blk t).view.set = _ from View.set_slice_whole ..]; exact ht⟩

theorem loss3 (V : (c : Dev nD) → (b : Ref sig .tc) → Buf (Elt Ideal) ((c : Thread nD τ).loc b)) (c : Dev nD)
    (h : StageIn (V c main_v29_1) (V c main_v40) (V c main_v43) (V c main_v37) (V c main_v45)) :
    (dat3 V c).arrAt 8 cfg3.N = keptLoss (V c main_v29_1) (V c main_v37) :=
  (dat3 V c).arrAt_eq_of_cover 8 (keptLoss (V c main_v29_1) (V c main_v37))
    (fun t ht => ((after3_8 V c t).trans ((steps3 V c).loss h t ((flush3_8 t).mp ht))).trans (lossOut3 (F := Ideal) (keptLoss (V c main_v29_1) (V c main_v37)) t))
    fun i => ⟨point 17 (by omega), (flush3_8 _).mpr rfl, by
      rw [show ((cfg3.win 8).blk _).view.set = _ from View.set_slice_whole ..]; exact cover_loss i (point 17 (by omega))⟩

theorem stage3 (V : (c : Dev nD) → (b : Ref sig .tc) → Buf (Elt Ideal) ((c : Thread nD τ).loc b)) (c : Dev nD)
    (h : StageIn (V c main_v29_1) (V c main_v40) (V c main_v43) (V c main_v37) (V c main_v45)) :
    StageOut (V c main_v29_1) (V c main_v37) ((dat3 V c).arrAt 5 cfg3.N) ((dat3 V c).arrAt 6 cfg3.N)
      ((dat3 V c).arrAt 7 cfg3.N) ((dat3 V c).arrAt 8 cfg3.N) :=
  ⟨rows3 V c h, next3 V c h, idx3 V c h, loss3 V c h⟩

end Cert.Proof.KI

end
-- ==== Proof.KI.Body4.lean ====
/-
  What the body of stage 4's kernel leaves in its output blocks.

  The stages run one body, so its outputs are the first stage's, already read off.
-/
module

public import proofs.«01_k».proof.Proof.KI.Stage

@[expose] public section

noncomputable section

namespace Cert.Proof.KI

open Cert.KernelIdeal Cert.KernelIdeal.Gen Cert.Proof.Math
open Idealize.ShloMosaic Idealize.ShloMosaic.TcCoe Idealize.SL.Sem

variable {F : FTy → Type} [FloatOps F]

theorem same4_A_5 : @out4_A_5 F _ = @out1_A_5 F _ := rfl
theorem same4_A_6 : @out4_A_6 F _ = @out1_A_6 F _ := rfl
theorem same4_A_8 : @out4_A_8 F _ = @out1_A_8 F _ := rfl
theorem same4_B_5 : @out4_B_5 F _ = @out1_B_5 F _ := rfl
theorem same4_B_6 : @out4_B_6 F _ = @out1_B_6 F _ := rfl
theorem same4_B_8 : @out4_B_8 F _ = @out1_B_8 F _ := rfl

theorem masked4 : @k4_pay4 F _ = @k1_pay4 F _ := rfl

/-- The row numbers the stage stores are those the first stage stores. -/
theorem numbers4 (r : Vec F S1024x64 .f32) (r2 : Vec F S1024x1 .f32) (c2 : Vec F S1x1x1024 .f32) (C : Vec F S1024x64 .f32) :
    k4_pay1 (k4_pay6 r r2 c2 C) = idxBlock r r2 c2 C := by
  unfold k4_pay6
  rw [masked4]
  rfl

section Runs
variable (c : Dev nD) (i : grid4.Coords)
  (a1 : Memref sig .tc .vmem S1024x64 .f32) (h1 : a1.IsWhole) (a2 : Memref sig .tc .vmem S1024x1 .f32) (h2 : a2.IsWhole)
  (a3 : Memref sig .tc .vmem S1x1x1024 .f32) (h3 : a3.IsWhole) (a4 : Memref sig .tc .vmem S1024x64 .f32) (h4 : a4.IsWhole)
  (a5 : Memref sig .tc .vmem S768x256 .f32) (h5 : a5.IsWhole) (a6 : Memref sig .tc .vmem S1024x64 .f32) (h6 : a6.IsWhole)
  (a7 : Memref sig .tc .vmem S1024x64 .f32) (h7 : a7.IsWhole) (a8 : Memref sig .tc .vmem S1x1x1024 .i32) (h8 : a8.IsWhole)
  (a9 : Memref sig .tc .smem S1x1 .f32) (h9 : a9.IsWhole)
  (r : Vec F S1024x64 .f32) (r2 : Vec F S1024x1 .f32) (c2 : Vec F S1x1x1024 .f32) (C : Vec F S1024x64 .f32)
  (G : Vec F S768x256 .f32) (l : Vec F S1x1 .f32)

theorem first_idx4 (hc : cond4_0 i) : out4_A_7 c i a1 h1 a2 h2 a3 h3 a4 h4 a5 h5 a6 h6 a7 h7 a8 h8 a9 h9 hc r r2 c2 C G
    = idxBlock r r2 c2 C := by
  unfold out4_A_7
  rw [View.read_writes_eq_canon _ _ _ (cover4_A_7 c i a1 h1 a2 h2 a3 h3 a4 h4 a5 h5 a6 h6 a7 h7 a8 h8 a9 h9 hc r r2 c2 C G)]
  unfold kernelRun4_A
  dsimp only
  sl_unfold_words
  rw [View.canon_cons_unit_zero (S := S1x1x1024) zeros3]
  simp only [View.readAt_eq_ld, h1.read_unread, h2.read_unread, h3.read_unread, h4.read_unread,
    View.ld_unit_zero (S := S1024x64) zeros2, View.ld_unit_zero (S := S1024x1) zeros2, View.ld_unit_zero (S := S1x1x1024) zeros3]
  exact numbers4 r r2 c2 C

theorem later_idx4 (hc : ¬cond4_0 i) : out4_B_7 c i a1 h1 a2 h2 a3 h3 a4 h4 a5 h5 a6 h6 a7 h7 a8 h8 a9 h9 hc r r2 c2 C G l
    = idxBlock r r2 c2 C := by
  unfold out4_B_7
  rw [View.read_writes_eq_canon _ _ _ (cover4_B_7 c i a1 h1 a2 h2 a3 h3 a4 h4 a5 h5 a6 h6 a7 h7 a8 h8 a9 h9 hc r r2 c2 C G l)]
  unfold kernelRun4_B
  dsimp only
  sl_unfold_words
  rw [View.canon_cons_unit_zero (S := S1x1x1024) zeros3]
  simp only [View.readAt_eq_ld, h1.read_unread, h2.read_unread, h3.read_unread, h4.read_unread,
    View.ld_unit_zero (S := S1024x64) zeros2, View.ld_unit_zero (S := S1024x1) zeros2, View.ld_unit_zero (S := S1x1x1024) zeros3]
  exact numbers4 r r2 c2 C

/-- The four outputs of the first point. -/
theorem first_out4 (hc : cond4_0 i) : (out4_A_5 c i a1 h1 a2 h2 a3 h3 a4 h4 a5 h5 a6 h6 a7 h7 a8 h8 a9 h9 hc r r2 c2 C G,
      out4_A_6 c i a1 h1 a2 h2 a3 h3 a4 h4 a5 h5 a6 h6 a7 h7 a8 h8 a9 h9 hc r r2 c2 C G,
      out4_A_7 c i a1 h1 a2 h2 a3 h3 a4 h4 a5 h5 a6 h6 a7 h7 a8 h8 a9 h9 hc r r2 c2 C G,
      out4_A_8 c i a1 h1 a2 h2 a3 h3 a4 h4 a5 h5 a6 h6 a7 h7 a8 h8 a9 h9 hc r r2 c2 C G)
    = stored r r2 c2 C G (Scalar.ofBits .f32 0x00000000#32) := by
  rw [first_idx4, same4_A_5, same4_A_6, same4_A_8, first_rows, first_next, first_loss, stored]

/-- The four outputs of a later point. -/
theorem later_out4 (hc : ¬cond4_0 i) : (out4_B_5 c i a1 h1 a2 h2 a3 h3 a4 h4 a5 h5 a6 h6 a7 h7 a8 h8 a9 h9 hc r r2 c2 C G l,
      out4_B_6 c i a1 h1 a2 h2 a3 h3 a4 h4 a5 h5 a6 h6 a7 h7 a8 h8 a9 h9 hc r r2 c2 C G l,
      out4_B_7 c i a1 h1 a2 h2 a3 h3 a4 h4 a5 h5 a6 h6 a7 h7 a8 h8 a9 h9 hc r r2 c2 C G l,
      out4_B_8 c i a1 h1 a2 h2 a3 h3 a4 h4 a5 h5 a6 h6 a7 h7 a8 h8 a9 h9 hc r r2 c2 C G l)
    = stored r r2 c2 C G (l (ix2 0 0)) := by
  rw [later_idx4, same4_B_5, same4_B_6, same4_B_8, later_rows, later_next, later_loss, stored]

end Runs

end Cert.Proof.KI

end
-- ==== Proof.KI.Stage4.lean ====
/-
  What stage 4 leaves in its result arrays.

  Its steps are those `Steps` states, so its four result arrays hold what `StageOut` says.
-/
module

public import proofs.«01_k».proof.Proof.KI.Body4

@[expose] public section

noncomputable section

namespace Cert.Proof.KI

open Cert.KernelIdeal Cert.KernelIdeal.Gen Cert.Proof.Math
open Idealize.ShloMosaic Idealize.ShloMosaic.TcCoe Idealize.SL.Sem

section Steps
variable {F : FTy → Type} [FloatOps F]
variable (V : (c : Dev nD) → (b : Ref sig .tc) → Buf (Elt F) ((c : Thread nD τ).loc b)) (c : Dev nD)

theorem rowsIn4 (t : Fin cfg4.N) : iblk4 V c 0 t = rowBlock (V c main_v46_1) (pt t) :=
  funext fun j => congrArg (V c main_v46_1) (emb_rows t j)

theorem normsIn4 (t : Fin cfg4.N) : iblk4 V c 1 t = rowBlock (V c main_v57) (pt t) :=
  funext fun j => congrArg (V c main_v57) (emb_norms t j)

theorem bookNormsIn4 (t : Fin cfg4.N) : iblk4 V c 2 t = V c main_v60 :=
  funext fun j => congrArg (V c main_v60) (emb_bookNorms t j)

theorem bookIn4 (t : Fin cfg4.N) : iblk4 V c 3 t = V c main_v54 :=
  funext fun j => congrArg (V c main_v54) (emb_book t j)

theorem groupedIn4 (t : Fin cfg4.N) : iblk4 V c 4 t = V c main_v62 :=
  funext fun j => congrArg (V c main_v62) (emb_grouped t j)

theorem steps4 : Steps (outsAt4 V c) (V c main_v46_1) (V c main_v57) (V c main_v60) (V c main_v54) (V c main_v62) where
  first h := by
    let t : Fin cfg4.N := ⟨0, h⟩
    refine (outsAt4_A V c t rfl).trans ((first_out4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t)
      (iblk4 V c 0 t) (iblk4 V c 1 t) (iblk4 V c 2 t) (iblk4 V c 3 t) (iblk4 V c 4 t) ((hcond4_0 t).mpr rfl)).trans ?_)
    exact stored_congr (rowsIn4 V c t) (normsIn4 V c t) (bookNormsIn4 V c t) (bookIn4 V c t) (groupedIn4 V c t) rfl
  later n h := by
    let t : Fin cfg4.N := ⟨n + 1, h⟩
    have h0 : ¬t.val % 18 = 0 := by have := lt18 t; show ¬(n + 1) % 18 = 0; have : n + 1 < 18 := this; omega
    refine (outsAt4_B V c t h0).trans ((later_out4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t)
      (iblk4 V c 0 t) (iblk4 V c 1 t) (iblk4 V c 2 t) (iblk4 V c 3 t) (iblk4 V c 4 t) _ (fun h => h0 ((hcond4_0 t).mp h))).trans ?_)
    exact stored_congr (rowsIn4 V c t) (normsIn4 V c t) (bookNormsIn4 V c t) (bookIn4 V c t) (groupedIn4 V c t) rfl

theorem rowsOut4 (A : Vec F S18432x64 .f32) (t : Fin cfg4.N) :
    rowBlock A (pt t) = ((cfg4.win 5).blk t).view.read (Elt F) A :=
  funext fun j => congrArg A (emb_rows t j).symm

theorem nextOut4 (A : Vec F S18432x64 .f32) (t : Fin cfg4.N) :
    rowBlock A (pt t) = ((cfg4.win 6).blk t).view.read (Elt F) A :=
  funext fun j => congrArg A (emb_rows t j).symm

theorem idxOut4 (A : Vec F S18x1x1024 .i32) (t : Fin cfg4.N) :
    (fun j => A (ix3 (pt t) (j 1) (j 2))) = ((cfg4.win 7).blk t).view.read (Elt F) A :=
  funext fun j => congrArg A (emb_idx t j).symm

theorem lossOut4 (A : Vec F S1x1 .f32) (t : Fin cfg4.N) : A = ((cfg4.win 8).blk t).view.read (Elt F) A :=
  funext fun j => congrArg A (emb_loss t j).symm

end Steps

theorem rows4 (V : (c : Dev nD) → (b : Ref sig .tc) → Buf (Elt Ideal) ((c : Thread nD τ).loc b)) (c : Dev nD)
    (h : StageIn (V c main_v46_1) (V c main_v57) (V c main_v60) (V c main_v54) (V c main_v62)) :
    (dat4 V c).arrAt 5 cfg4.N = keptRows (V c main_v46_1) (V c main_v54) :=
  (dat4 V c).arrAt_eq_of_cover 5 (keptRows (V c main_v46_1) (V c main_v54))
    (fun t _ => ((after4_5 V c t).trans ((steps4 V c).rows h t)).trans (rowsOut4 (F := Ideal) (keptRows (V c main_v46_1) (V c main_v54)) t))
    fun i => (cover_rows i).imp fun t ht => ⟨flush4_5 t, by
      rw [show ((cfg4.win 5).blk t).view.set = _ from View.set_slice_whole ..]; exact ht⟩

theorem next4 (V : (c : Dev nD) → (b : Ref sig .tc) → Buf (Elt Ideal) ((c : Thread nD τ).loc b)) (c : Dev nD)
    (h : StageIn (V c main_v46_1) (V c main_v57) (V c main_v60) (V c main_v54) (V c main_v62)) :
    (dat4 V c).arrAt 6 cfg4.N = nextRows (V c main_v46_1) (V c main_v54) :=
  (dat4 V c).arrAt_eq_of_cover 6 (nextRows (V c main_v46_1) (V c main_v54))
    (fun t _ => ((after4_6 V c t).trans ((steps4 V c).next h t)).trans (nextOut4 (F := Ideal) (nextRows (V c main_v46_1) (V c main_v54)) t))
    fun i => (cover_rows i).imp fun t ht => ⟨flush4_6 t, by
      rw [show ((cfg4.win 6).blk t).view.set = _ from View.set_slice_whole ..]; exact ht⟩

theorem idx4 (V : (c : Dev nD) → (b : Ref sig .tc) → Buf (Elt Ideal) ((c : Thread nD τ).loc b)) (c : Dev nD)
    (h : StageIn (V c main_v46_1) (V c main_v57) (V c main_v60) (V c main_v54) (V c main_v62)) :
    (dat4 V c).arrAt 7 cfg4.N = keptIdx (V c main_v46_1) (V c main_v54) :=
  (dat4 V c).arrAt_eq_of_cover 7 (keptIdx (V c main_v46_1) (V c main_v54))
    (fun t _ => ((after4_7 V c t).trans ((steps4 V c).idx h t)).trans (idxOut4 (F := Ideal) (keptIdx (V c main_v46_1) (V c main_v54)) t))
    fun i => (cover_idx i).imp fun t ht => ⟨flush4_7 t, by
      rw [show ((cfg4.win 7).blk t).view.set = _ from View.set_slice_whole ..]; exact ht⟩

theorem loss4 (V : (c : Dev nD) → (b : Ref sig .tc) → Buf (Elt Ideal) ((c : Thread nD τ).loc b)) (c : Dev nD)
    (h : StageIn (V c main_v46_1) (V c main_v57) (V c main_v60) (V c main_v54) (V c main_v62)) :
    (dat4 V c).arrAt 8 cfg4.N = keptLoss (V c main_v46_1) (V c main_v54) :=
  (dat4 V c).arrAt_eq_of_cover 8 (keptLoss (V c main_v46_1) (V c main_v54))
    (fun t ht => ((after4_8 V c t).trans ((steps4 V c).loss h t ((flush4_8 t).mp ht))).trans (lossOut4 (F := Ideal) (keptLoss (V c main_v46_1) (V c main_v54)) t))
    fun i => ⟨point 17 (by omega), (flush4_8 _).mpr rfl, by
      rw [show ((cfg4.win 8).blk _).view.set = _ from View.set_slice_whole ..]; exact cover_loss i (point 17 (by omega))⟩

theorem stage4 (V : (c : Dev nD) → (b : Ref sig .tc) → Buf (Elt Ideal) ((c : Thread nD τ).loc b)) (c : Dev nD)
    (h : StageIn (V c main_v46_1) (V c main_v57) (V c main_v60) (V c main_v54) (V c main_v62)) :
    StageOut (V c main_v46_1) (V c main_v54) ((dat4 V c).arrAt 5 cfg4.N) ((dat4 V c).arrAt 6 cfg4.N)
      ((dat4 V c).arrAt 7 cfg4.N) ((dat4 V c).arrAt 8 cfg4.N) :=
  ⟨rows4 V c h, next4 V c h, idx4 V c h, loss4 V c h⟩

end Cert.Proof.KI

end
-- ==== Proof.KI.Chain.lean ====
/-
  The kernel's results.

  From the contents at one boundary of the program to those at the next: the split call leaves the grouped codebooks; each
  stage is given its prepared arrays and leaves what the reference computes (`left1` … `left4`); the stretches between
  gather the loss, the indices and the reconstruction. So the last contents hold the reference's results (`results`).
-/
module

public import proofs.«01_k».proof.Proof.KI.Hosts
public import proofs.«01_k».proof.Proof.KI.Stage1
public import proofs.«01_k».proof.Proof.KI.Stage2
public import proofs.«01_k».proof.Proof.KI.Stage3
public import proofs.«01_k».proof.Proof.KI.Stage4
public import proofs.«01_k».proof.Proof.Gen.KernelIdeal.Frame.Fold0

@[expose] public section

set_option maxRecDepth 16384

noncomputable section

namespace Cert.Proof.KI

open Cert.KernelIdeal Cert.KernelIdeal.Gen Cert.Proof.Math
open Idealize.ShloMosaic Idealize.ShloMosaic.TcCoe Idealize.ShloMosaic.StableHlo Idealize.SL.Sem

/-- A stage, given prepared arrays, leaves what the reference computes. -/
theorem left_stage (k : Fin 4) {h : S4x1024x64.Slices ![k.val, 0, 0] S1x1024x64} {h' : S4x768x256.Slices ![k.val, 0, 0] S1x768x256}
    {cb : FVec Ideal S4x1024x64 .f32} (hfin : ∀ i, cb i - cb i = 0)
    {r zq rn : FVec Ideal S18432x64 .f32} {r2 : FVec Ideal S18432x1 .f32} {c2 : FVec Ideal S1x1x1024 .f32}
    {C : FVec Ideal S1024x64 .f32} {G : FVec Ideal S768x256 .f32} {idx : IVec S18x1x1024 32} {e : FVec Ideal S1x1 .f32}
    (hp : Prepared k.val h h' r cb (splitRows (regroup cb)) r2 c2 C G)
    (hs : StageIn r r2 c2 C G → StageOut r C zq rn idx e) : Left r (RI.book k.val h cb) zq rn idx e := by
  obtain ⟨rfl, rfl, rfl, rfl⟩ := hp
  exact left_of r _ (hs (stageIn r k h h' cb hfin))

variable (m : (ℓ : Loc nD τ sig) → Buf (Elt Ideal) ℓ) (ρ : Dev nD → PrngReg) (c : Dev nD)

/-- The input and the codebooks at launch. -/
abbrev z0 : FVec Ideal S32x576x64 .f32 := m ((c : Thread nD τ).loc main_arg0)
abbrev cb0 : FVec Ideal S4x1024x64 .f32 := m ((c : Thread nD τ).loc main_arg1)

/-- A stage and the stretch before it keep what neither of them writes. -/
theorem keep1 (r : Ref sig .tc) (h : r ∉ hostOps1_W)
    (h' : ∀ w : Fin cfg1.W, Pipeline.arrRef spec1 w = r → (cfg1.win w).isOut = false) :
    W4 m ρ c (Proc.devRef .tc r) = W2 m ρ c (Proc.devRef .tc r) :=
  (W4_of m ρ c r h').trans (W3_of m ρ c r h)
theorem keep2 (r : Ref sig .tc) (h : r ∉ hostOps2_W)
    (h' : ∀ w : Fin cfg2.W, Pipeline.arrRef spec2 w = r → (cfg2.win w).isOut = false) :
    W6 m ρ c (Proc.devRef .tc r) = W4 m ρ c (Proc.devRef .tc r) :=
  (W6_of m ρ c r h').trans (W5_of m ρ c r h)
theorem keep3 (r : Ref sig .tc) (h : r ∉ hostOps3_W)
    (h' : ∀ w : Fin cfg3.W, Pipeline.arrRef spec3 w = r → (cfg3.win w).isOut = false) :
    W8 m ρ c (Proc.devRef .tc r) = W6 m ρ c (Proc.devRef .tc r) :=
  (W8_of m ρ c r h').trans (W7_of m ρ c r h)
theorem keep4 (r : Ref sig .tc) (h : r ∉ hostOps4_W)
    (h' : ∀ w : Fin cfg4.W, Pipeline.arrRef spec4 w = r → (cfg4.win w).isOut = false) :
    W10 m ρ c (Proc.devRef .tc r) = W8 m ρ c (Proc.devRef .tc r) :=
  (W10_of m ρ c r h').trans (W9_of m ρ c r h)

/-- The split call leaves the grouped codebooks. -/
theorem split_at : W2 m ρ c (main_v2 : DevRef τ sig) = splitRows (regroup (cb0 m c)) :=
  (W2_arr m ρ c 1).trans ((split_array (V1 m ρ) c).trans (congrArg splitRows (open_reads (W0 m ρ c)).2))

/-- The input rows when the first stage is prepared. -/
theorem rows_at : W2 m ρ c (main_v0 : DevRef τ sig) = RI.rows0 (F := Ideal) (z0 m c) :=
  (W2_of m ρ c main_v0 (by decide)).trans (open_reads (W0 m ρ c)).1

/-- Stage 1's arrays, at the boundary after it. -/
theorem out1 (h : StageIn (W3 m ρ c (main_v0 : DevRef τ sig)) (W3 m ρ c (main_v7 : DevRef τ sig)) (W3 m ρ c (main_v10 : DevRef τ sig)) (W3 m ρ c (main_v4 : DevRef τ sig)) (W3 m ρ c (main_v12 : DevRef τ sig))) :
    StageOut (W3 m ρ c (main_v0 : DevRef τ sig)) (W3 m ρ c (main_v4 : DevRef τ sig)) (W4 m ρ c (main_v13_0 : DevRef τ sig)) (W4 m ρ c (main_v13_1 : DevRef τ sig))
      (W4 m ρ c (main_v13_2 : DevRef τ sig)) (W4 m ρ c (main_v13_3 : DevRef τ sig)) :=
  have s := stage1 (V3 m ρ) c h
  ⟨(W4_arr m ρ c 5).trans s.rows, (W4_arr m ρ c 6).trans s.next, (W4_arr m ρ c 7).trans s.idx, (W4_arr m ρ c 8).trans s.loss⟩

/-- Stage 2's arrays, at the boundary after it. -/
theorem out2 (h : StageIn (W5 m ρ c (main_v13_1 : DevRef τ sig)) (W5 m ρ c (main_v23 : DevRef τ sig)) (W5 m ρ c (main_v26 : DevRef τ sig)) (W5 m ρ c (main_v20 : DevRef τ sig)) (W5 m ρ c (main_v28 : DevRef τ sig))) :
    StageOut (W5 m ρ c (main_v13_1 : DevRef τ sig)) (W5 m ρ c (main_v20 : DevRef τ sig)) (W6 m ρ c (main_v29_0 : DevRef τ sig)) (W6 m ρ c (main_v29_1 : DevRef τ sig))
      (W6 m ρ c (main_v29_2 : DevRef τ sig)) (W6 m ρ c (main_v29_3 : DevRef τ sig)) :=
  have s := stage2 (V5 m ρ) c h
  ⟨(W6_arr m ρ c 5).trans s.rows, (W6_arr m ρ c 6).trans s.next, (W6_arr m ρ c 7).trans s.idx, (W6_arr m ρ c 8).trans s.loss⟩

/-- Stage 3's arrays, at the boundary after it. -/
theorem out3 (h : StageIn (W7 m ρ c (main_v29_1 : DevRef τ sig)) (W7 m ρ c (main_v40 : DevRef τ sig)) (W7 m ρ c (main_v43 : DevRef τ sig)) (W7 m ρ c (main_v37 : DevRef τ sig)) (W7 m ρ c (main_v45 : DevRef τ sig))) :
    StageOut (W7 m ρ c (main_v29_1 : DevRef τ sig)) (W7 m ρ c (main_v37 : DevRef τ sig)) (W8 m ρ c (main_v46_0 : DevRef τ sig)) (W8 m ρ c (main_v46_1 : DevRef τ sig))
      (W8 m ρ c (main_v46_2 : DevRef τ sig)) (W8 m ρ c (main_v46_3 : DevRef τ sig)) :=
  have s := stage3 (V7 m ρ) c h
  ⟨(W8_arr m ρ c 5).trans s.rows, (W8_arr m ρ c 6).trans s.next, (W8_arr m ρ c 7).trans s.idx, (W8_arr m ρ c 8).trans s.loss⟩

/-- Stage 4's arrays, at the boundary after it. -/
theorem out4 (h : StageIn (W9 m ρ c (main_v46_1 : DevRef τ sig)) (W9 m ρ c (main_v57 : DevRef τ sig)) (W9 m ρ c (main_v60 : DevRef τ sig)) (W9 m ρ c (main_v54 : DevRef τ sig)) (W9 m ρ c (main_v62 : DevRef τ sig))) :
    StageOut (W9 m ρ c (main_v46_1 : DevRef τ sig)) (W9 m ρ c (main_v54 : DevRef τ sig)) (W10 m ρ c (main_v63_0 : DevRef τ sig)) (W10 m ρ c (main_v63_1 : DevRef τ sig))
      (W10 m ρ c (main_v63_2 : DevRef τ sig)) (W10 m ρ c (main_v63_3 : DevRef τ sig)) :=
  have s := stage4 (V9 m ρ) c h
  ⟨(W10_arr m ρ c 5).trans s.rows, (W10_arr m ρ c 6).trans s.next, (W10_arr m ρ c 7).trans s.idx, (W10_arr m ρ c 8).trans s.loss⟩

variable (hfin : ∀ i, cb0 m c i - cb0 m c i = 0)
include hfin

/-- What stage 1 leaves. -/
theorem left1 : Left (RI.rows0 (F := Ideal) (z0 m c)) (RI.books (F := Ideal) (cb0 m c) 0) (W4 m ρ c (main_v13_0 : DevRef τ sig)) (W4 m ρ c (main_v13_1 : DevRef τ sig))
      (W4 m ρ c (main_v13_2 : DevRef τ sig)) (W4 m ρ c (main_v13_3 : DevRef τ sig)) := by
  have hr : W2 m ρ c (main_v0 : DevRef τ sig) = RI.rows0 (F := Ideal) (z0 m c) := rows_at m ρ c
  have hcb : W2 m ρ c (main_arg1 : DevRef τ sig) = cb0 m c := W2_args m ρ c main_arg1 (by decide)
  have hg : W2 m ρ c (main_v2 : DevRef τ sig) = splitRows (regroup (cb0 m c)) :=
    (split_at m ρ c)
  have hp := prepared1 (W2 m ρ c)
  have hs := out1 m ρ c
  rw [show W3 m ρ c (main_v0 : DevRef τ sig) = RI.rows0 (F := Ideal) (z0 m c) from (W3_of m ρ c main_v0 (by decide)).trans hr] at hs
  rw [hr, hcb, hg] at hp
  exact left_stage 0 hfin hp hs

/-- What stage 2 leaves. -/
theorem left2 : Left (RI.rows1 (F := Ideal) (z0 m c) (cb0 m c)) (RI.books (F := Ideal) (cb0 m c) 1) (W6 m ρ c (main_v29_0 : DevRef τ sig)) (W6 m ρ c (main_v29_1 : DevRef τ sig))
      (W6 m ρ c (main_v29_2 : DevRef τ sig)) (W6 m ρ c (main_v29_3 : DevRef τ sig)) := by
  have hr : W4 m ρ c (main_v13_1 : DevRef τ sig) = RI.rows1 (F := Ideal) (z0 m c) (cb0 m c) := (left1 m ρ c hfin).next
  have hcb : W4 m ρ c (main_arg1 : DevRef τ sig) = cb0 m c := W4_args m ρ c main_arg1 (by decide)
  have hg : W4 m ρ c (main_v2 : DevRef τ sig) = splitRows (regroup (cb0 m c)) :=
    ((keep1 m ρ c main_v2 (by decide) (by decide)).trans (split_at m ρ c))
  have hp := prepared2 (W4 m ρ c)
  have hs := out2 m ρ c
  rw [show W5 m ρ c (main_v13_1 : DevRef τ sig) = RI.rows1 (F := Ideal) (z0 m c) (cb0 m c) from (W5_of m ρ c main_v13_1 (by decide)).trans hr] at hs
  rw [hr, hcb, hg] at hp
  exact left_stage 1 hfin hp hs

/-- What stage 3 leaves. -/
theorem left3 : Left (RI.rows2 (F := Ideal) (z0 m c) (cb0 m c)) (RI.books (F := Ideal) (cb0 m c) 2) (W8 m ρ c (main_v46_0 : DevRef τ sig)) (W8 m ρ c (main_v46_1 : DevRef τ sig))
      (W8 m ρ c (main_v46_2 : DevRef τ sig)) (W8 m ρ c (main_v46_3 : DevRef τ sig)) := by
  have hr : W6 m ρ c (main_v29_1 : DevRef τ sig) = RI.rows2 (F := Ideal) (z0 m c) (cb0 m c) := (left2 m ρ c hfin).next
  have hcb : W6 m ρ c (main_arg1 : DevRef τ sig) = cb0 m c := W6_args m ρ c main_arg1 (by decide)
  have hg : W6 m ρ c (main_v2 : DevRef τ sig) = splitRows (regroup (cb0 m c)) :=
    ((keep2 m ρ c main_v2 (by decide) (by decide)).trans ((keep1 m ρ c main_v2 (by decide) (by decide)).trans (split_at m ρ c)))
  have hp := prepared3 (W6 m ρ c)
  have hs := out3 m ρ c
  rw [show W7 m ρ c (main_v29_1 : DevRef τ sig) = RI.rows2 (F := Ideal) (z0 m c) (cb0 m c) from (W7_of m ρ c main_v29_1 (by decide)).trans hr] at hs
  rw [hr, hcb, hg] at hp
  exact left_stage 2 hfin hp hs

/-- What stage 4 leaves. -/
theorem left4 : Left (RI.rows3 (F := Ideal) (z0 m c) (cb0 m c)) (RI.books (F := Ideal) (cb0 m c) 3) (W10 m ρ c (main_v63_0 : DevRef τ sig)) (W10 m ρ c (main_v63_1 : DevRef τ sig))
      (W10 m ρ c (main_v63_2 : DevRef τ sig)) (W10 m ρ c (main_v63_3 : DevRef τ sig)) := by
  have hr : W8 m ρ c (main_v46_1 : DevRef τ sig) = RI.rows3 (F := Ideal) (z0 m c) (cb0 m c) := (left3 m ρ c hfin).next
  have hcb : W8 m ρ c (main_arg1 : DevRef τ sig) = cb0 m c := W8_args m ρ c main_arg1 (by decide)
  have hg : W8 m ρ c (main_v2 : DevRef τ sig) = splitRows (regroup (cb0 m c)) :=
    ((keep3 m ρ c main_v2 (by decide) (by decide)).trans ((keep2 m ρ c main_v2 (by decide) (by decide)).trans ((keep1 m ρ c main_v2 (by decide) (by decide)).trans (split_at m ρ c))))
  have hp := prepared4 (W8 m ρ c)
  have hs := out4 m ρ c
  rw [show W9 m ρ c (main_v46_1 : DevRef τ sig) = RI.rows3 (F := Ideal) (z0 m c) (cb0 m c) from (W9_of m ρ c main_v46_1 (by decide)).trans hr] at hs
  rw [hr, hcb, hg] at hp
  exact left_stage 3 hfin hp hs

/-- The loss, stage by stage. -/
theorem loss_at : W11 m ρ c (main_v67 : DevRef τ sig) = RI.outLoss (F := Ideal) (z0 m c) (cb0 m c) := by
  have e1 := (closed1 (W4 m ρ c)).1.trans ((left1 m ρ c hfin).loss _)
  have e2 := (closed2 (W6 m ρ c)).1.trans ((left2 m ρ c hfin).loss _)
  have e3 := (closed3 (W8 m ρ c)).1.trans ((left3 m ρ c hfin).loss _)
  have e4 := (closed4 (W10 m ρ c)).1.trans ((left4 m ρ c hfin).loss _)
  rw [(W6_of m ρ c main_v17 (by decide)).trans e1] at e2
  rw [(W8_of m ρ c main_v33 (by decide)).trans e2] at e3
  rw [(W10_of m ρ c main_v50 (by decide)).trans e3] at e4
  exact e4

/-- The rows picked so far, after the second stage and after the third. -/
theorem recon2_at : W7 m ρ c (main_v35 : DevRef τ sig)
    = (addf (RI.stageRows (RI.rows0 (F := Ideal) (z0 m c)) (RI.books (F := Ideal) (cb0 m c) 0))
        (RI.stageRows (RI.rows1 (F := Ideal) (z0 m c) (cb0 m c)) (RI.books (F := Ideal) (cb0 m c) 1)) : FVec Ideal S18432x64 .f32) := by
  have e := (closed2 (W6 m ρ c)).2.2
  rw [keep2 m ρ c main_v13_0 (by decide) (by decide), (left1 m ρ c hfin).rows, (left2 m ρ c hfin).rows] at e
  exact e

theorem recon3_at : W9 m ρ c (main_v52 : DevRef τ sig)
    = (addf (addf (RI.stageRows (RI.rows0 (F := Ideal) (z0 m c)) (RI.books (F := Ideal) (cb0 m c) 0))
          (RI.stageRows (RI.rows1 (F := Ideal) (z0 m c) (cb0 m c)) (RI.books (F := Ideal) (cb0 m c) 1)))
        (RI.stageRows (RI.rows2 (F := Ideal) (z0 m c) (cb0 m c)) (RI.books (F := Ideal) (cb0 m c) 2)) : FVec Ideal S18432x64 .f32) := by
  have e := (closed3 (W8 m ρ c)).2.2
  rw [W8_of m ρ c main_v35 (by decide), recon2_at m ρ c hfin, (left3 m ρ c hfin).rows] at e
  exact e

/-- The straight-through output. -/
theorem out_at : W11 m ρ c (main_v72 : DevRef τ sig) = RI.outZ (F := Ideal) (z0 m c) (cb0 m c) := by
  have e := close_read (W10 m ρ c)
  rw [W10_of m ρ c main_v52 (by decide), recon3_at m ρ c hfin, (left4 m ρ c hfin).rows,
    keep4 m ρ c main_v0 (by decide) (by decide), keep3 m ρ c main_v0 (by decide) (by decide),
    keep2 m ρ c main_v0 (by decide) (by decide), keep1 m ρ c main_v0 (by decide) (by decide), rows_at m ρ c] at e
  refine e.trans ?_
  unfold RI.outZ RI.outRecon
  rw [zeros_add]

/-- The four index vectors. -/
theorem idx1_at : W11 m ρ c (main_v18 : DevRef τ sig)
    = RI.stageIdx (RI.rows0 (F := Ideal) (z0 m c)) (RI.books (F := Ideal) (cb0 m c) 0) := by
  rw [W11_of m ρ c main_v18 (by decide), keep4 m ρ c main_v18 (by decide) (by decide),
    keep3 m ρ c main_v18 (by decide) (by decide), W6_of m ρ c main_v18 (by decide)]
  exact (closed1 (W4 m ρ c)).2.trans (left1 m ρ c hfin).idx

theorem idx2_at : W11 m ρ c (main_v34 : DevRef τ sig)
    = RI.stageIdx (RI.rows1 (F := Ideal) (z0 m c) (cb0 m c)) (RI.books (F := Ideal) (cb0 m c) 1) := by
  rw [W11_of m ρ c main_v34 (by decide), keep4 m ρ c main_v34 (by decide) (by decide), W8_of m ρ c main_v34 (by decide)]
  exact (closed2 (W6 m ρ c)).2.1.trans (left2 m ρ c hfin).idx

theorem idx3_at : W11 m ρ c (main_v51 : DevRef τ sig)
    = RI.stageIdx (RI.rows2 (F := Ideal) (z0 m c) (cb0 m c)) (RI.books (F := Ideal) (cb0 m c) 2) := by
  rw [W11_of m ρ c main_v51 (by decide), W10_of m ρ c main_v51 (by decide)]
  exact (closed3 (W8 m ρ c)).2.1.trans (left3 m ρ c hfin).idx

theorem idx4_at : W11 m ρ c (main_v68 : DevRef τ sig)
    = RI.stageIdx (RI.rows3 (F := Ideal) (z0 m c) (cb0 m c)) (RI.books (F := Ideal) (cb0 m c) 3) :=
  (closed4 (W10 m ρ c)).2.1.trans (left4 m ρ c hfin).idx

end Cert.Proof.KI

end
-- ==== Proof.Algebraic.lean ====
/-
  The value claim: the kernel and the reference leave the same six results.

  Both runs end with the reference's functions of the arguments (`RI.outZ`, `RI.outLoss`, `RI.stageIdx`): the reference by
  `RI.run_main`, the kernel, where the codebooks are finite, by `KI.run_main` and the contents read in `KI/Chain.lean`.
-/
module

public import proofs.«01_k».proof.Defs
public import proofs.«01_k».proof.Proof.Gen.KernelIdeal
public import proofs.«01_k».proof.Proof.Gen.ReferenceIdeal
public import proofs.«01_k».proof.Proof.Finite
public import proofs.«01_k».proof.Proof.KI.Run
public import proofs.«01_k».proof.Proof.KI.Chain
public import proofs.«01_k».proof.Proof.RI.Run
public import Idealize.ShloMosaic.Lib.Quiescent

@[expose] public section

set_option maxRecDepth 16384

noncomputable section

namespace Cert.Proof

open Idealize.ShloMosaic Idealize.ShloMosaic.TcCoe Idealize.SL.Sem

/-- The reference ends, its arguments unchanged; it has no semaphore. -/
theorem reference_frame (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal))) ⟨m, fun _ => 0, ρ⟩
      (fun r => (∀ c : Dev ReferenceIdeal.nD,
        r.2.mem ((c.tc : Thread ReferenceIdeal.nD ReferenceIdeal.τ).loc ReferenceIdeal.main_arg0)
          = m ((c.tc : Thread ReferenceIdeal.nD ReferenceIdeal.τ).loc ReferenceIdeal.main_arg0)
        ∧ r.2.mem ((c.tc : Thread ReferenceIdeal.nD ReferenceIdeal.τ).loc ReferenceIdeal.main_arg1)
          = m ((c.tc : Thread ReferenceIdeal.nD ReferenceIdeal.τ).loc ReferenceIdeal.main_arg1))
        ∧ r.2.sem = fun _ => 0) :=
  (θ_run _ _ _).mono (fun r h => ⟨fun c => (h c).2.2.2.2.2.2, sem_eq_zero_of_no_sems (by decide) r.2⟩) (RI.run_main m ρ)

section
variable (m : (ℓ : Loc KernelIdeal.nD KernelIdeal.τ KernelIdeal.sig) → Buf (Elt Ideal) ℓ) (ρ : Dev KernelIdeal.nD → PrngReg)

/-- What the kernel's program leaves, where the codebooks are finite. -/
theorem kernel_run (hfin : ∀ c i, KI.cb0 m c i - KI.cb0 m c i = 0) :
    θ_run (KernelIdeal.defs (F := Ideal)) (onTc (τ := KernelIdeal.τ) (KernelIdeal.main (F := Ideal))) ⟨m, fun _ => 0, ρ⟩
      (fun r => ∀ c : Dev KernelIdeal.nD,
        r.2.mem ((c.tc : Thread KernelIdeal.nD KernelIdeal.τ).loc KernelIdeal.main_v72) = RI.outZ (F := Ideal) (KI.z0 m c) (KI.cb0 m c)
        ∧ r.2.mem ((c.tc : Thread KernelIdeal.nD KernelIdeal.τ).loc KernelIdeal.main_v67) = RI.outLoss (F := Ideal) (KI.z0 m c) (KI.cb0 m c)
        ∧ r.2.mem ((c.tc : Thread KernelIdeal.nD KernelIdeal.τ).loc KernelIdeal.main_v18)
          = RI.stageIdx (RI.rows0 (F := Ideal) (KI.z0 m c)) (RI.books (F := Ideal) (KI.cb0 m c) 0)
        ∧ r.2.mem ((c.tc : Thread KernelIdeal.nD KernelIdeal.τ).loc KernelIdeal.main_v34)
          = RI.stageIdx (RI.rows1 (F := Ideal) (KI.z0 m c) (KI.cb0 m c)) (RI.books (F := Ideal) (KI.cb0 m c) 1)
        ∧ r.2.mem ((c.tc : Thread KernelIdeal.nD KernelIdeal.τ).loc KernelIdeal.main_v51)
          = RI.stageIdx (RI.rows2 (F := Ideal) (KI.z0 m c) (KI.cb0 m c)) (RI.books (F := Ideal) (KI.cb0 m c) 2)
        ∧ r.2.mem ((c.tc : Thread KernelIdeal.nD KernelIdeal.τ).loc KernelIdeal.main_v68)
          = RI.stageIdx (RI.rows3 (F := Ideal) (KI.z0 m c) (KI.cb0 m c)) (RI.books (F := Ideal) (KI.cb0 m c) 3)
        ∧ r.2.mem ((c.tc : Thread KernelIdeal.nD KernelIdeal.τ).loc KernelIdeal.main_arg0)
          = m ((c.tc : Thread KernelIdeal.nD KernelIdeal.τ).loc KernelIdeal.main_arg0)
        ∧ r.2.mem ((c.tc : Thread KernelIdeal.nD KernelIdeal.τ).loc KernelIdeal.main_arg1)
          = m ((c.tc : Thread KernelIdeal.nD KernelIdeal.τ).loc KernelIdeal.main_arg1)) :=
  (θ_run _ _ _).mono (fun r h c =>
    have at_ (b : Ref KernelIdeal.sig .tc) (hb : ¬ b.isScoped) := h c _ (KernelIdeal.Gen.mem_uc b hb)
    ⟨(at_ KernelIdeal.main_v72 (by decide)).trans (KI.out_at m ρ c (hfin c)),
     (at_ KernelIdeal.main_v67 (by decide)).trans (KI.loss_at m ρ c (hfin c)),
     (at_ KernelIdeal.main_v18 (by decide)).trans (KI.idx1_at m ρ c (hfin c)),
     (at_ KernelIdeal.main_v34 (by decide)).trans (KI.idx2_at m ρ c (hfin c)),
     (at_ KernelIdeal.main_v51 (by decide)).trans (KI.idx3_at m ρ c (hfin c)),
     (at_ KernelIdeal.main_v68 (by decide)).trans (KI.idx4_at m ρ c (hfin c)),
     (at_ KernelIdeal.main_arg0 (by decide)).trans (KernelIdeal.Gen.W11_main_arg0 m ρ c),
     (at_ KernelIdeal.main_arg1 (by decide)).trans (KernelIdeal.Gen.W11_main_arg1 m ρ c)⟩) (KI.run_main m ρ)
end

/-- The kernel and the reference, from the same arguments, leave the same results. -/
theorem algebraic : Cert.algebraic_KernelIdeal_ReferenceIdeal_pre_finite_codebooks
    (hKernelIdeal := KernelIdeal.Gen.facts) (hReferenceIdeal := ReferenceIdeal.Gen.facts)
    (hPre_finite_codebooks := Pre_finite_codebooks.Gen.facts) := by
  intro m g m' g' hpre hargs
  refine ⟨_, _, _, _, _, _, kernel_run m g fun c i => sub_self_of_pre _ _ (hpre c) i, ?_⟩
  refine (θ_run _ _ _).mono (fun r h c => ?_) (RI.run_main m' g')
  obtain ⟨h0, h1⟩ := hargs c
  have k := h c
  rw [h0, h1] at k
  obtain ⟨a, b, i0, i1, i2, i3, _⟩ := k
  exact ⟨a, b, i0, i1, i2, i3, (h c).2.2.2.2.2.2⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_codebooks
public import proofs.«01_k».proof.Proof.Algebraic

@[expose] public section

noncomputable section

namespace Cert.Proof

open Idealize.ShloMosaic Idealize.SL.Sem

/-- Every claim: the generated frames of the kernel, as printed and idealized; the reference's frame; no rewrite to preserve;
    and the value claim. -/
theorem claim : Cert.Claim :=
  ⟨Cert.Kernel.Gen.facts, Cert.KernelIdeal.Gen.facts, Cert.ReferenceIdeal.Gen.facts, Cert.Pre_finite_codebooks.Gen.facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    trivial,
    algebraic⟩

end Cert.Proof

end
